-- ==== Defs.lean ====
def Pre_Kernel [hPre_swapped_Kernel : Cert.Pre_swapped_Kernel.Facts] (m : (ℓ : Loc Cert.Kernel.nD Cert.Kernel.τ Cert.Kernel.sig) → Buf (Elt Bits) ℓ) : Prop :=
  ∀ c : Dev Cert.Kernel.nD,
    (Cert.Pre_swapped_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_kept_Kernel [hPre_kept_Kernel : Cert.Pre_kept_Kernel.Facts] (m : (ℓ : Loc Cert.Kernel.nD Cert.Kernel.τ Cert.Kernel.sig) → Buf (Elt Bits) ℓ) : Prop :=
  ∀ c : Dev Cert.Kernel.nD,
    (Cert.Pre_kept_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swapped_Kernel : Cert.Pre_swapped_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swapped_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_kept_Kernel [hPre_kept_Kernel : Cert.Pre_kept_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_kept_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swapped_ReferenceIdeal [hPre_swapped_ReferenceIdeal : Cert.Pre_swapped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swapped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_kept_ReferenceIdeal [hPre_kept_ReferenceIdeal : Cert.Pre_kept_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kept_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swapped_Kernel : Cert.Pre_swapped_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_kept_Kernel [hKernel : Cert.Kernel.Facts] [hPre_kept_Kernel : Cert.Pre_kept_Kernel.Facts] : Prop :=
  ∀ (m : (ℓ : Loc Cert.Kernel.nD Cert.Kernel.τ Cert.Kernel.sig) → Buf (Elt Bits) ℓ) (g : Dev Cert.Kernel.nD → PrngReg), Pre_Kernel_kept_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_kept_Kernel [hKernelIdeal : Cert.KernelIdeal.Facts] [hPre_kept_Kernel : Cert.Pre_kept_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kept_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swapped_ReferenceIdeal [hReferenceIdeal : Cert.ReferenceIdeal.Facts] [hPre_swapped_ReferenceIdeal : Cert.Pre_swapped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swapped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_kept_ReferenceIdeal [hReferenceIdeal : Cert.ReferenceIdeal.Facts] [hPre_kept_ReferenceIdeal : Cert.Pre_kept_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kept_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_kept_Kernel [hKernelIdeal : Cert.KernelIdeal.Facts] [hReferenceIdeal : Cert.ReferenceIdeal.Facts] [hPre_kept_Kernel : Cert.Pre_kept_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kept_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swapped_Kernel : Cert.Pre_swapped_Kernel.Facts) (hPre_kept_Kernel : Cert.Pre_kept_Kernel.Facts) (hPre_swapped_ReferenceIdeal : Cert.Pre_swapped_ReferenceIdeal.Facts) (hPre_kept_ReferenceIdeal : Cert.Pre_kept_ReferenceIdeal.Facts),
    quiescent_Kernel (hKernel := hKernel) (hPre_swapped_Kernel := hPre_swapped_Kernel)
    ∧ quiescent_Kernel_pre_kept_Kernel (hKernel := hKernel) (hPre_kept_Kernel := hPre_kept_Kernel)
    ∧ quiescent_KernelIdeal (hKernelIdeal := hKernelIdeal) (hPre_swapped_Kernel := hPre_swapped_Kernel)
    ∧ quiescent_KernelIdeal_pre_kept_Kernel (hKernelIdeal := hKernelIdeal) (hPre_kept_Kernel := hPre_kept_Kernel)
    ∧ quiescent_ReferenceIdeal (hReferenceIdeal := hReferenceIdeal)
    ∧ quiescent_ReferenceIdeal_pre_swapped_ReferenceIdeal (hReferenceIdeal := hReferenceIdeal) (hPre_swapped_ReferenceIdeal := hPre_swapped_ReferenceIdeal)
    ∧ quiescent_ReferenceIdeal_pre_kept_ReferenceIdeal (hReferenceIdeal := hReferenceIdeal) (hPre_kept_ReferenceIdeal := hPre_kept_ReferenceIdeal)
    ∧ preserves_Kernel_KernelIdeal
    ∧ algebraic_KernelIdeal_ReferenceIdeal (hKernelIdeal := hKernelIdeal) (hReferenceIdeal := hReferenceIdeal) (hPre_swapped_Kernel := hPre_swapped_Kernel)
    ∧ algebraic_KernelIdeal_ReferenceIdeal_pre_kept_Kernel (hKernelIdeal := hKernelIdeal) (hReferenceIdeal := hReferenceIdeal) (hPre_kept_Kernel := hPre_kept_Kernel)
-- ==== Pre_kept_Kernel.lean ====
abbrev S1x512x512 : Shape := ⟨3, ![1, 512, 512]⟩
abbrev S2 : Shape := ⟨1, ![2]⟩

class Facts : Prop where

variable [Facts]

def fn {F : FTy → Type} [FloatOps F] (main_arg0 : FVec F S1x512x512 .f32) (main_arg1 : IVec S2 32) : IVec S2 1 :=
  let main_v0 : IVec S2 32 := iotaInDim S2 32 0
  let main_v1 : IVec S2 1 := cmpi .eq main_arg1 main_v0
  main_v1
-- ==== Pre_kept_ReferenceIdeal.lean ====
abbrev S2x512x512 : Shape := ⟨3, ![2, 512, 512]⟩
abbrev S2 : Shape := ⟨1, ![2]⟩

class Facts : Prop where

variable [Facts]

def fn {F : FTy → Type} [FloatOps F] (main_arg0 : FVec F S2x512x512 .f32) (main_arg1 : IVec S2 32) : IVec S2 1 :=
  let main_v0 : IVec S2 32 := iotaInDim S2 32 0
  let main_v1 : IVec S2 1 := cmpi .eq main_arg1 main_v0
  main_v1
-- ==== Pre_swapped_Kernel.lean ====
abbrev S1x512x512 : Shape := ⟨3, ![1, 512, 512]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S1x512x512 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_swapped_ReferenceIdeal.lean ====
abbrev S2x512x512 : Shape := ⟨3, ![2, 512, 512]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x512x512 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Kernel.lean ====
abbrev S1x512x512 : Shape := ⟨3, ![1, 512, 512]⟩
abbrev S2 : Shape := ⟨1, ![2]⟩
abbrev S4 : Shape := ⟨1, ![4]⟩
abbrev S_ : Shape := ⟨0, ![]⟩
abbrev S1 : Shape := ⟨1, ![1]⟩
abbrev S1x32x512 : Shape := ⟨3, ![1, 32, 512]⟩
abbrev S1x128x512 : Shape := ⟨3, ![1, 128, 512]⟩

abbrev nBuf : Space → Nat
  | .hbm => 3
  | .vmem => 2
  | .smem => 1
  | _ => 0

abbrev bufTy : (tb : Table) → Fin (tcTables nBuf tb) → BufTy
  | .hbm, ⟨0, _⟩ => ⟨S1x512x512, .f32⟩
  | .hbm, ⟨1, _⟩ => ⟨S2, .i32⟩
  | .hbm, ⟨2, _⟩ => ⟨S1x512x512, .f32⟩
  | .local _ .vmem, ⟨0, _⟩ => ⟨S1x512x512, .f32⟩
  | .local _ .vmem, ⟨1, _⟩ => ⟨S1x512x512, .f32⟩
  | .local _ .smem, ⟨0, _⟩ => ⟨S2, .i32⟩
  | _, _ => ⟨S1x512x512, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32_9 : BitVec 32 := 0#32
  let c4_i32_8 : BitVec 32 := 4#32
  let v23 : BitVec 32 := Scalar.muli v10 c4_i32_8
  let v24 : BitVec 32 := Scalar.addi c0_i32_9 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v25 : BitVec 32 := Scalar.muli v5 c2_i32_10
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v27 : BitVec 32 := Scalar.muli v8 c1_i32_11
  let v28 : BitVec 32 := Scalar.addi v26 v27
  v28.toNat
def k0_cond1 (d0 : Dev nD) (v10 : BitVec 32) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 1 := Scalar.cmpi .ne v10 v2
  let v17 : BitVec 32 := Scalar.extui v11
  let c0_i32 : BitVec 32 := 0#32
  let v18 : BitVec 1 := Scalar.cmpi .ne v17 c0_i32
  v18

def k0_dev2 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v29 : BitVec 32 := Scalar.muli v2 c4_i32_13
  let v30 : BitVec 32 := Scalar.addi c0_i32_14 v29
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_4 v5
  let c2_i32_15 : BitVec 32 := 2#32
  let v31 : BitVec 32 := Scalar.muli v15 c2_i32_15
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v33 : BitVec 32 := Scalar.muli v8 c1_i32_16
  let v34 : BitVec 32 := Scalar.addi v32 v33
  v34.toNat
def k0_dev3 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v35 : BitVec 32 := Scalar.muli v2 c4_i32_18
  let v36 : BitVec 32 := Scalar.addi c0_i32_19 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v37 : BitVec 32 := Scalar.muli v5 c2_i32_20
  let v38 : BitVec 32 := Scalar.addi v36 v37
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_5 v8
  let c1_i32_21 : BitVec 32 := 1#32
  let v39 : BitVec 32 := Scalar.muli v16 c1_i32_21
  let v40 : BitVec 32 := Scalar.addi v38 v39
  v40.toNat
def k0_off2 (d0 : Dev nD) (c0_i32_24 : BitVec 32) : Fin 3 → Nat :=
  let c0_i32_31 : BitVec 32 := 0#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32 : BitVec 32 := 128#32
  let v41 : BitVec 32 := Scalar.muli v13 c128_i32
  let v42 : BitVec 32 := Scalar.addi v41 c0_i32_24
  let c0_i32_32 : BitVec 32 := 0#32
  ![0, v42.toNat, 0]
def k0_dev4 (d0 : Dev nD) (v10 : BitVec 32) : Nat :=
  let c0_i32_28 : BitVec 32 := 0#32
  let c4_i32_27 : BitVec 32 := 4#32
  let v43 : BitVec 32 := Scalar.muli v10 c4_i32_27
  let v44 : BitVec 32 := Scalar.addi c0_i32_28 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v45 : BitVec 32 := Scalar.muli v5 c2_i32_29
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v47 : BitVec 32 := Scalar.muli v8 c1_i32_30
  let v48 : BitVec 32 := Scalar.addi v46 v47
  v48.toNat
def k0_dev5 (d0 : Dev nD) (v10 : BitVec 32) : Nat :=
  let c0_i32_39 : BitVec 32 := 0#32
  let c4_i32_38 : BitVec 32 := 4#32
  let v57 : BitVec 32 := Scalar.muli v10 c4_i32_38
  let v58 : BitVec 32 := Scalar.addi c0_i32_39 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v59 : BitVec 32 := Scalar.muli v5 c2_i32_40
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v61 : BitVec 32 := Scalar.muli v8 c1_i32_41
  let v62 : BitVec 32 := Scalar.addi v60 v61
  v62.toNat
def k0_dev6 (d0 : Dev nD) (v10 : BitVec 32) : Nat :=
  let c0_i32_50 : BitVec 32 := 0#32
  let c4_i32_49 : BitVec 32 := 4#32
  let v71 : BitVec 32 := Scalar.muli v10 c4_i32_49
  let v72 : BitVec 32 := Scalar.addi c0_i32_50 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v73 : BitVec 32 := Scalar.muli v5 c2_i32_51
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v75 : BitVec 32 := Scalar.muli v8 c1_i32_52
  let v76 : BitVec 32 := Scalar.addi v74 v75
  v76.toNat
def k0_dev7 (d0 : Dev nD) (v10 : BitVec 32) : Nat :=
  let c0_i32_61 : BitVec 32 := 0#32
  let c4_i32_60 : BitVec 32 := 4#32
  let v85 : BitVec 32 := Scalar.muli v10 c4_i32_60
  let v86 : BitVec 32 := Scalar.addi c0_i32_61 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v87 : BitVec 32 := Scalar.muli v5 c2_i32_62
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v89 : BitVec 32 := Scalar.muli v8 c1_i32_63
  let v90 : BitVec 32 := Scalar.addi v88 v89
  v90.toNat
def k0_off3 (d0 : Dev nD) : Fin 3 → Nat :=
  let c0_i32_74 : BitVec 32 := 0#32
  let c3_i32 : BitVec 32 := 3#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v14 : BitVec 32 := Scalar.subi c3_i32 v13
  let c128_i32_69 : BitVec 32 := 128#32
  let v98 : BitVec 32 := Scalar.muli v14 c128_i32_69
  let c0_i32_75 : BitVec 32 := 0#32
  ![0, v98.toNat, 0]
def k0_dev8 (d0 : Dev nD) (v10 : BitVec 32) : Nat :=
  let c0_i32_71 : BitVec 32 := 0#32
  let c4_i32_70 : BitVec 32 := 4#32
  let v99 : BitVec 32 := Scalar.muli v10 c4_i32_70
  let v100 : BitVec 32 := Scalar.addi c0_i32_71 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v101 : BitVec 32 := Scalar.muli v5 c2_i32_72
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v103 : BitVec 32 := Scalar.muli v8 c1_i32_73
  let v104 : BitVec 32 := Scalar.addi v102 v103
  v104.toNat

def k0_chk1 (d0 : Dev nD) (v10 : BitVec 32) : Prop :=
  (∀ (k0_h1 : k0_cond1 d0 v10 = 1#1), (k0_dev1 d0 v10) < nD) ∧
  (∀ (k0_h1 : k0_cond1 d0 v10 = 1#1), (k0_dev4 d0 v10) < nD) ∧
  (∀ (k0_h1 : k0_cond1 d0 v10 = 1#1), (k0_dev5 d0 v10) < nD) ∧
  (∀ (k0_h1 : k0_cond1 d0 v10 = 1#1), (k0_dev6 d0 v10) < nD) ∧
  (∀ (k0_h1 : k0_cond1 d0 v10 = 1#1), (k0_dev7 d0 v10) < nD) ∧
  (∀ (k0_h1 : k0_cond1 d0 v10 = 1#1), (k0_dev8 d0 v10) < nD)
theorem k0_dev1_lt : ∀ (d0 : Dev nD) (v10 : BitVec 32) (k0_hw1 : k0_chk1 d0 v10), ∀ (k0_h1 : k0_cond1 d0 v10 = 1#1), (k0_dev1 d0 v10) < nD := fun d0 v10 k0_hw1 k0_h1 => k0_hw1.1 k0_h1
theorem k0_dev4_lt : ∀ (d0 : Dev nD) (v10 : BitVec 32) (k0_hw1 : k0_chk1 d0 v10), ∀ (k0_h1 : k0_cond1 d0 v10 = 1#1), (k0_dev4 d0 v10) < nD := fun d0 v10 k0_hw1 k0_h1 => k0_hw1.2.1 k0_h1
theorem k0_dev5_lt : ∀ (d0 : Dev nD) (v10 : BitVec 32) (k0_hw1 : k0_chk1 d0 v10), ∀ (k0_h1 : k0_cond1 d0 v10 = 1#1), (k0_dev5 d0 v10) < nD := fun d0 v10 k0_hw1 k0_h1 => k0_hw1.2.2.1 k0_h1
theorem k0_dev6_lt : ∀ (d0 : Dev nD) (v10 : BitVec 32) (k0_hw1 : k0_chk1 d0 v10), ∀ (k0_h1 : k0_cond1 d0 v10 = 1#1), (k0_dev6 d0 v10) < nD := fun d0 v10 k0_hw1 k0_h1 => k0_hw1.2.2.2.1 k0_h1
theorem k0_dev7_lt : ∀ (d0 : Dev nD) (v10 : BitVec 32) (k0_hw1 : k0_chk1 d0 v10), ∀ (k0_h1 : k0_cond1 d0 v10 = 1#1), (k0_dev7 d0 v10) < nD := fun d0 v10 k0_hw1 k0_h1 => k0_hw1.2.2.2.2.1 k0_h1
theorem k0_dev8_lt : ∀ (d0 : Dev nD) (v10 : BitVec 32) (k0_hw1 : k0_chk1 d0 v10), ∀ (k0_h1 : k0_cond1 d0 v10 = 1#1), (k0_dev8 d0 v10) < nD := fun d0 v10 k0_hw1 k0_h1 => k0_hw1.2.2.2.2.2 k0_h1

def k0_dev9 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_92 : BitVec 32 := 4#32
  let v119 : BitVec 32 := Scalar.muli v2 c4_i32_92
  let v120 : BitVec 32 := Scalar.addi c0_i32_93 v119
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_4 v5
  let c2_i32_94 : BitVec 32 := 2#32
  let v121 : BitVec 32 := Scalar.muli v15 c2_i32_94
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v123 : BitVec 32 := Scalar.muli v8 c1_i32_95
  let v124 : BitVec 32 := Scalar.addi v122 v123
  v124.toNat
def k0_dev10 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v131 : BitVec 32 := Scalar.muli v2 c4_i32_102
  let v132 : BitVec 32 := Scalar.addi c0_i32_103 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v133 : BitVec 32 := Scalar.muli v5 c2_i32_104
  let v134 : BitVec 32 := Scalar.addi v132 v133
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_5 v8
  let c1_i32_105 : BitVec 32 := 1#32
  let v135 : BitVec 32 := Scalar.muli v16 c1_i32_105
  let v136 : BitVec 32 := Scalar.addi v134 v135
  v136.toNat
def k0_dev11 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v155 : BitVec 32 := Scalar.muli v2 c4_i32_124
  let v156 : BitVec 32 := Scalar.addi c0_i32_125 v155
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_4 v5
  let c2_i32_126 : BitVec 32 := 2#32
  let v157 : BitVec 32 := Scalar.muli v15 c2_i32_126
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_127 : BitVec 32 := 1#32
  let v159 : BitVec 32 := Scalar.muli v8 c1_i32_127
  let v160 : BitVec 32 := Scalar.addi v158 v159
  v160.toNat
def k0_dev12 (d0 : Dev nD) : Nat :=
  let c0_i32_135 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_134 : BitVec 32 := 4#32
  let v167 : BitVec 32 := Scalar.muli v2 c4_i32_134
  let v168 : BitVec 32 := Scalar.addi c0_i32_135 v167
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_136 : BitVec 32 := 2#32
  let v169 : BitVec 32 := Scalar.muli v5 c2_i32_136
  let v170 : BitVec 32 := Scalar.addi v168 v169
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_5 v8
  let c1_i32_137 : BitVec 32 := 1#32
  let v171 : BitVec 32 := Scalar.muli v16 c1_i32_137
  let v172 : BitVec 32 := Scalar.addi v170 v171
  v172.toNat
def k0_dev13 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_156 : BitVec 32 := 4#32
  let v191 : BitVec 32 := Scalar.muli v2 c4_i32_156
  let v192 : BitVec 32 := Scalar.addi c0_i32_157 v191
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_4 v5
  let c2_i32_158 : BitVec 32 := 2#32
  let v193 : BitVec 32 := Scalar.muli v15 c2_i32_158
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v195 : BitVec 32 := Scalar.muli v8 c1_i32_159
  let v196 : BitVec 32 := Scalar.addi v194 v195
  v196.toNat
def k0_dev14 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_166 : BitVec 32 := 4#32
  let v203 : BitVec 32 := Scalar.muli v2 c4_i32_166
  let v204 : BitVec 32 := Scalar.addi c0_i32_167 v203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v205 : BitVec 32 := Scalar.muli v5 c2_i32_168
  let v206 : BitVec 32 := Scalar.addi v204 v205
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_5 v8
  let c1_i32_169 : BitVec 32 := 1#32
  let v207 : BitVec 32 := Scalar.muli v16 c1_i32_169
  let v208 : BitVec 32 := Scalar.addi v206 v207
  v208.toNat
def k0_dev15 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v227 : BitVec 32 := Scalar.muli v2 c4_i32_188
  let v228 : BitVec 32 := Scalar.addi c0_i32_189 v227
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_4 v5
  let c2_i32_190 : BitVec 32 := 2#32
  let v229 : BitVec 32 := Scalar.muli v15 c2_i32_190
  let v230 : BitVec 32 := Scalar.addi v228 v229
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v231 : BitVec 32 := Scalar.muli v8 c1_i32_191
  let v232 : BitVec 32 := Scalar.addi v230 v231
  v232.toNat
def k0_dev16 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_198 : BitVec 32 := 4#32
  let v239 : BitVec 32 := Scalar.muli v2 c4_i32_198
  let v240 : BitVec 32 := Scalar.addi c0_i32_199 v239
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_200 : BitVec 32 := 2#32
  let v241 : BitVec 32 := Scalar.muli v5 c2_i32_200
  let v242 : BitVec 32 := Scalar.addi v240 v241
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_5 v8
  let c1_i32_201 : BitVec 32 := 1#32
  let v243 : BitVec 32 := Scalar.muli v16 c1_i32_201
  let v244 : BitVec 32 := Scalar.addi v242 v243
  v244.toNat
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Strips.lean ====
/-
# The mesh, the strips, and what the result holds

The eight devices stand in a 2×2×2 mesh, device `c = 4x + 2y + z`. This module names the three neighbours
a device talks to, the sets of elements of a `1×512×512` buffer that the kernel's transfers move, and the contents
its result buffer ends with. No program step is taken here.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The neighbours -/

/-- The device across the first mesh axis: the one whose block this device's result is. -/
def px (c : Dev nD) : Dev nD := ⟨(c.val + 4) % 8, Nat.mod_lt _ (by decide)⟩
/-- The neighbour along the second mesh axis. -/
def yn (c : Dev nD) : Dev nD := ⟨4 * (c.val / 4) + (c.val + 2) % 4, by have := c.isLt; simp only [nD] at *; omega⟩
/-- The neighbour along the third mesh axis. -/
def zn (c : Dev nD) : Dev nD := ⟨2 * (c.val / 2) + (c.val + 1) % 2, by have := c.isLt; simp only [nD] at *; omega⟩

theorem px_px (c : Dev nD) : px (px c) = c := by revert c; decide
theorem yn_yn (c : Dev nD) : yn (yn c) = c := by revert c; decide
theorem zn_zn (c : Dev nD) : zn (zn c) = c := by revert c; decide

/-- The strip of 128 rows a device asks its partner for in small chunks. -/
def strip (c : Dev nD) : Nat := c.val % 4

theorem strip_lt (c : Dev nD) : strip c < 4 := Nat.mod_lt _ (by decide)
theorem strip_px (c : Dev nD) : strip (px c) = strip c := by revert c; decide

/-! ## The pieces of a buffer -/

/-- Rows `lo ≤ r < lo + n` of a `1×512×512` buffer. -/
def rows (lo n : Nat) : Finset S1x512x512.Idx := Finset.univ.filter fun x => lo ≤ (x 1).val ∧ (x 1).val < lo + n

theorem mem_rows {lo n : Nat} {x : S1x512x512.Idx} : x ∈ rows lo n ↔ lo ≤ (x 1).val ∧ (x 1).val < lo + n := by
  unfold rows; rw [Finset.mem_filter]; exact and_iff_right (Finset.mem_univ x)

/-- The rectangle of `n` whole rows from row `o 1` has the elements of those rows. -/
theorem rect_rows {o : Fin 3 → Nat} {n : Nat} (h : ∀ a, o a + (![1, n, 512] : Fin 3 → Nat) a ≤ S1x512x512.size a)
    {lo : Nat} (ho : o = ![0, lo, 0]) : (Rect.unit (s := S1x512x512) o (![1, n, 512]) h).set = rows lo n := by
  subst ho
  ext x
  rw [Rect.mem_set_unit, mem_rows]
  constructor
  · intro hx; exact hx 1
  · intro hx a
    fin_cases a
    · exact ⟨Nat.zero_le _, (x 0).isLt⟩
    · exact hx
    · exact ⟨Nat.zero_le _, by have := (x 2).isLt; exact this⟩

/-- The `i`-th chunk of 32 rows of device `c`'s own strip. -/
def chunk (c : Dev nD) (i : Fin 4) : Finset S1x512x512.Idx := rows (128 * strip c + 32 * i.val) 32
/-- The opposite strip, moved in one transfer. -/
def whole (c : Dev nD) : Finset S1x512x512.Idx := rows (128 * (3 - strip c)) 128

theorem chunk_px (c : Dev nD) (i : Fin 4) : chunk (px c) i = chunk c i := by unfold chunk; rw [strip_px]
theorem whole_px (c : Dev nD) : whole (px c) = whole c := by unfold whole; rw [strip_px]

theorem off2_rows (c : Dev nD) (i : Fin 4) : k0_off2 c (BitVec.ofNat 32 (32 * i.val)) = ![0, 128 * strip c + 32 * i.val, 0] := by
  revert c i; decide +kernel
theorem off3_rows (c : Dev nD) : k0_off3 c = ![0, 128 * (3 - strip c), 0] := by revert c; decide +kernel

/-- The thirteen pieces a buffer falls into on device `c`: its own strip's four chunks, the opposite strip, and
    the four chunks of the strips its two neighbours forward. -/
inductive Piece | a (i : Fin 4) | b | y (i : Fin 4) | z (i : Fin 4)
  deriving DecidableEq

/-- The pieces, listed. -/
def pieces : Finset Piece :=
  Finset.univ.image Piece.a ∪ {Piece.b} ∪ Finset.univ.image Piece.y ∪ Finset.univ.image Piece.z

/-- A piece's first row and how many rows it has. -/
def span (c : Dev nD) : Piece → Nat × Nat
  | .a i => (128 * strip c + 32 * i.val, 32)
  | .b => (128 * (3 - strip c), 128)
  | .y i => (128 * strip (yn c) + 32 * i.val, 32)
  | .z i => (128 * strip (zn c) + 32 * i.val, 32)

/-- A piece's elements. -/
def part (c : Dev nD) (p : Piece) : Finset S1x512x512.Idx := rows (span c p).1 (span c p).2

theorem spans_apart : ∀ c : Dev nD, ∀ p ∈ pieces, ∀ p' ∈ pieces, p ≠ p' →
    (span c p).1 + (span c p).2 ≤ (span c p').1 ∨ (span c p').1 + (span c p').2 ≤ (span c p).1 := by decide +kernel

theorem spans_cover : ∀ c : Dev nD, ∀ q : Fin 16, ∃ p ∈ pieces, (span c p).1 ≤ 32 * q.val ∧ 32 * q.val + 32 ≤ (span c p).1 + (span c p).2 := by
  decide +kernel

theorem part_disjoint (c : Dev nD) : ∀ p ∈ pieces, ∀ p' ∈ pieces, p ≠ p' → Disjoint (part c p) (part c p') := by
  intro p hp p' hp' hne
  rw [Finset.disjoint_left]
  intro x hx hx'
  unfold part at hx hx'
  rw [mem_rows] at hx hx'
  rcases spans_apart c p hp p' hp' hne with h | h <;> omega

theorem part_cover (c : Dev nD) : pieces.biUnion (part c) = Finset.univ := by
  refine Finset.eq_univ_of_forall fun x => ?_
  have hx : (x 1).val < 512 := (x 1).isLt
  obtain ⟨p, hp, h1, h2⟩ := spans_cover c ⟨(x 1).val / 32, by omega⟩
  refine Finset.mem_biUnion.mpr ⟨p, hp, ?_⟩
  unfold part; rw [mem_rows]
  simp only at h1 h2
  omega

end Swap

end
-- ==== Proof.Schedule.lean ====
/-
# The schedule: who waits, who pays, how much, and what each landing hands over

One schedule serves both ways the kernel can run: `b = true`, every device fetches its partner's block (`pi` exchanges the
two indices), and `b = false`, every device keeps its own. Each semaphore of the kernel is one cell with one round.

`b = true`, on device `c`:

* the barrier is waited for 3 by `c`; its partner, its y neighbour and its z neighbour pay one unit each, and hand over the
  pieces of THEIR result buffer that `c` will write (contents arbitrary);
* receive cell of piece `p` is waited by `c` for the piece's bytes; the device that the piece comes from pays by copying onto
  it; the landing hands over that piece of `c`'s result buffer, holding the result;
* send cell of piece `p` is waited by `c` for the same bytes; the same copy pays it when it has been read; it hands back the
  piece of `c`'s block, or half a share of the forwarded chunk of `c`'s result buffer.

`b = false`, on device `c`: the copy cell is waited by `c` for the block's bytes; its own local copy pays it; it hands over
the whole result buffer holding the block, and the block.
-/
module

public import proofs.«01_k».proof.Proof.Strips

@[expose] public section

noncomputable section

namespace Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the kernel's own cells, its duties named by four numbers, -/
abbrev UB : Type := URounds (GSem nD τ sig) (Fin 4)
/-- beside the pipeline's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Pieces and their directions -/

instance : Fintype Piece := ⟨pieces, fun p => by cases p <;> simp [pieces]⟩

theorem univ_piece : (Finset.univ : Finset Piece) = pieces := rfl

/-- The neighbour in direction `d`: the partner, the y neighbour, the z neighbour, the device itself. -/
def nb (d : Fin 4) (c : Dev nD) : Dev nD := match d with
  | 0 => px c | 1 => yn c | 2 => zn c | 3 => c

theorem nb_nb (d : Fin 4) (c : Dev nD) : nb d (nb d c) = c := by revert d c; decide

/-- The direction a piece travels in. -/
def dir : Piece → Fin 4
  | .a _ => 0 | .b => 0 | .y _ => 1 | .z _ => 2

/-- The piece of the sender's buffer that is copied: a forwarded chunk is one that arrived from the partner. -/
def src : Piece → Piece
  | .a i => .a i | .b => .b | .y i => .a i | .z i => .a i

/-- The piece written at the destination has the rows of the piece read at the sender. -/
theorem part_nb (c : Dev nD) (p : Piece) : part (nb (dir p) c) p = part c (src p) := by
  unfold part
  have h : ∀ (c : Dev nD) (p : Piece), span (nb (dir p) c) p = span c (src p) := by decide +kernel
  rw [h]

/-! ## Cells -/

/-- The kernel's semaphores: the barrier, the send and the receive semaphore of each piece, the local copy's. -/
inductive Cell | bar | snd (p : Piece) | rcv (p : Piece) | cp
  deriving DecidableEq

instance : Fintype Cell :=
  ⟨{.bar, .cp} ∪ (Finset.univ : Finset Piece).image Cell.snd ∪ (Finset.univ : Finset Piece).image Cell.rcv, fun κ => by cases κ <;> simp⟩

/-- The barrier semaphore, shared by the launches with its id. -/
abbrev barS : Sem sig := (SemArray.scalar (sig.barrier 0 rfl) : Sems sig S_).sem

/-- A piece's send semaphore, -/
def sndS : Piece → DmaSem sig
  | .a i => ⟨3 + i.val, by have := i.isLt; show _ < 30; omega⟩
  | .b => 11
  | .y i => ⟨13 + i.val, by have := i.isLt; show _ < 30; omega⟩
  | .z i => ⟨21 + i.val, by have := i.isLt; show _ < 30; omega⟩
/-- its receive semaphore, -/
def rcvS : Piece → DmaSem sig
  | .a i => ⟨7 + i.val, by have := i.isLt; show _ < 30; omega⟩
  | .b => 12
  | .y i => ⟨17 + i.val, by have := i.isLt; show _ < 30; omega⟩
  | .z i => ⟨25 + i.val, by have := i.isLt; show _ < 30; omega⟩
/-- the local copy's. -/
def cpS : DmaSem sig := (29 : Fin 30)

/-- A cell's semaphore. -/
def sem : Cell → SemLoc sig
  | .bar => .reg barS
  | .snd p => .dma (sndS p)
  | .rcv p => .dma (rcvS p)
  | .cp => .dma cpS

/-- The cell a semaphore is, if it is one of the kernel's. -/
def kind (s : SemLoc sig) : Option Cell :=
  match s with
  | .reg _ => some .bar
  | .dma q =>
    if h : q.val < 3 then none
    else if h : q.val < 7 then some (.snd (.a ⟨q.val - 3, by omega⟩))
    else if h : q.val < 11 then some (.rcv (.a ⟨q.val - 7, by omega⟩))
    else if h : q.val < 12 then some (.snd .b)
    else if h : q.val < 13 then some (.rcv .b)
    else if h : q.val < 17 then some (.snd (.y ⟨q.val - 13, by omega⟩))
    else if h : q.val < 21 then some (.rcv (.y ⟨q.val - 17, by omega⟩))
    else if h : q.val < 25 then some (.snd (.z ⟨q.val - 21, by omega⟩))
    else if h : q.val < 29 then some (.rcv (.z ⟨q.val - 25, by omega⟩))
    else some .cp

theorem kind_sem (κ : Cell) : kind (sem κ) = some κ := by revert κ; decide +kernel

theorem sem_injective : Function.Injective sem := fun κ κ' h => by
  have := congrArg kind h; rw [kind_sem, kind_sem] at this; exact Option.some.inj this

/-- Device `c`'s cell. -/
abbrev cell (c : Dev nD) (κ : Cell) : GSem nD τ sig := ((c : Thread nD τ), sem κ)

theorem cell_inj {c c' : Dev nD} {κ κ' : Cell} : cell c κ = cell c' κ' ↔ c = c' ∧ κ = κ' := by
  constructor
  · intro h
    refine ⟨?_, sem_injective (congrArg Prod.snd h)⟩
    have := congrArg (fun g : GSem nD τ sig => g.1.1) h; exact this
  · rintro ⟨rfl, rfl⟩; rfl

/-! ## Contents -/

/-- Device `c`'s block of `x`, staged. -/
def xstg (c : Dev nD) : (cc0_stg1_0 : Ref sig .tc).ty.Contents (Elt F) :=
  (win0_1.blk t0_0).view.read (Elt F) (m ((c : Thread nD τ).loc main_arg0))

/-- What device `c`'s result buffer holds when everything has landed: on the rows of its own strip and of the opposite one
    its partner's block, on the strip its y neighbour forwards the block of that neighbour's partner, on the rest the
    block of the z neighbour's partner. -/
def outAt (c : Dev nD) : (cc0_stg2_0 : Ref sig .tc).ty.Contents (Elt F) := fun x =>
  if (x 1).val / 128 = strip (yn c) then (xstg m (px (yn c)) : S1x512x512.Idx → _) x
  else if (x 1).val / 128 = strip (zn c) then (xstg m (px (zn c)) : S1x512x512.Idx → _) x
  else (xstg m (px c) : S1x512x512.Idx → _) x

omit [FloatOps F] in
/-- What a piece of the result buffer holds is what the sender's piece held: of its block for a piece from the partner, -/
theorem outAt_x (c : Dev nD) (p : Piece) (hp : dir p = 0) (x : S1x512x512.Idx) (hx : x ∈ part c p) :
    outAt m (px c) x = (xstg m c : S1x512x512.Idx → _) x := by
  unfold part at hx; rw [mem_rows] at hx
  have h1 : ¬ (x 1).val / 128 = strip (yn (px c)) ∧ ¬ (x 1).val / 128 = strip (zn (px c)) := by
    have hs : ∀ (c : Dev nD) (p : Piece), dir p = 0 → ∀ q : Fin 4, (span c p).1 < 128 * q.val + 128 → 128 * q.val < (span c p).1 + (span c p).2 →
        q.val ≠ strip (yn (px c)) ∧ q.val ≠ strip (zn (px c)) := by decide +kernel
    have hl : (x 1).val < 512 := (x 1).isLt
    exact hs c p hp ⟨(x 1).val / 128, by omega⟩ (by simp only; omega) (by simp only; omega)
  unfold outAt
  rw [if_neg h1.1, if_neg h1.2, px_px]

omit [FloatOps F] in
/-- of its result buffer for a forwarded one. -/
theorem outAt_fwd (c : Dev nD) (p : Piece) (hp : dir p ≠ 0) (x : S1x512x512.Idx) (hx : x ∈ part c (src p)) :
    outAt m (nb (dir p) c) x = outAt m c x := by
  unfold part at hx; rw [mem_rows] at hx
  have hl : (x 1).val < 512 := (x 1).isLt
  have hs : ∀ (c : Dev nD) (p : Piece), dir p ≠ 0 → ∀ q : Fin 4, (span c (src p)).1 < 128 * q.val + 128 → 128 * q.val < (span c (src p)).1 + (span c (src p)).2 →
      q.val = strip c := by decide +kernel
  have hq := hs c p hp ⟨(x 1).val / 128, by omega⟩ (by simp only; omega) (by simp only; omega)
  simp only at hq
  have hA : ∀ c : Dev nD, strip c ≠ strip (yn c) ∧ strip c ≠ strip (zn c) ∧ strip c ≠ strip (yn (zn c)) ∧ strip c ≠ strip (zn (yn c)) := by decide +kernel
  obtain ⟨h1, h2, h3, h4⟩ := hA c
  unfold outAt
  rw [hq, if_neg h1, if_neg h2]
  cases p with
  | a i => exact absurd rfl hp
  | b => exact absurd rfl hp
  | y i =>
    show (if strip c = strip (yn (yn c)) then _ else _) = _
    rw [yn_yn, if_pos rfl]
    show xstg m (px (yn (yn c))) x = _
    rw [yn_yn]
  | z i =>
    show (if strip c = strip (yn (zn c)) then _ else if strip c = strip (zn (zn c)) then _ else _) = _
    rw [zn_zn, if_neg h3, if_pos rfl]
    show xstg m (px (zn (zn c))) x = _
    rw [zn_zn]

/-! ## Ownership -/

/-- Elements `S` of device `c`'s staged block, at contents `f`; -/
def xPts (c : Dev nD) (S : Finset S1x512x512.Idx) (q : PosShare TreeShare) (f : (cc0_stg1_0 : Ref sig .tc).ty.Contents (Elt F)) : sProp 𝕄 :=
  ((c : Thread nD τ).loc cc0_stg1_0) ↦[S]{q} f
/-- of its result buffer. -/
def oPts (c : Dev nD) (S : Finset S1x512x512.Idx) (q : PosShare TreeShare) (f : (cc0_stg2_0 : Ref sig .tc).ty.Contents (Elt F)) : sProp 𝕄 :=
  ((c : Thread nD τ).loc cc0_stg2_0) ↦[S]{q} f

omit [FloatOps F] in
instance xPts_storable (c : Dev nD) (S q f) : BI.Storable (upEmb : UEmb _ 𝕄) (xPts (F := F) c S q f) := by unfold xPts; infer_instance
omit [FloatOps F] in
instance oPts_storable (c : Dev nD) (S q f) : BI.Storable (upEmb : UEmb _ 𝕄) (oPts (F := F) c S q f) := by unfold oPts; infer_instance

omit [FloatOps F] in
theorem xPts_pieces (c : Dev nD) (q f) : xPts (F := F) c Finset.univ q f = bigSep Finset.univ fun p => xPts c (part c p) q f := by
  unfold xPts
  have h := pointsTo_biUnion (nD := nD) (τ := τ) (sig := sig) (Ix := Unit) (Name := ℕ) (U := UU) (Lvl := ℕ) (ℓ := (c : Thread nD τ).loc cc0_stg1_0) (q := q) (f := f)
    pieces (part c) (part_disjoint c)
  rwa [part_cover c] at h
omit [FloatOps F] in
theorem oPts_pieces (c : Dev nD) (q f) : oPts (F := F) c Finset.univ q f = bigSep Finset.univ fun p => oPts c (part c p) q f := by
  unfold oPts
  have h := pointsTo_biUnion (nD := nD) (τ := τ) (sig := sig) (Ix := Unit) (Name := ℕ) (U := UU) (Lvl := ℕ) (ℓ := (c : Thread nD τ).loc cc0_stg2_0) (q := q) (f := f)
    pieces (part c) (part_disjoint c)
  rwa [part_cover c] at h

/-! ## The schedule -/

/-- The pieces travelling in direction `d`. -/
def going (d : Fin 4) : Finset Piece := Finset.univ.filter fun p => dir p = d

/-- What device `c` gets with the barrier unit its neighbour in direction `d` pays: the pieces of that neighbour's result
    buffer that `c` will write. -/
def barPay (c : Dev nD) (d : Fin 4) : sProp 𝕄 :=
  iprop(∃ f, bigSep (going d) fun p => oPts (nb d c) (part (nb d c) p) fullShare f)

/-- What device `c` gets back once piece `p` has been read off it. -/
def sndPay (c : Dev nD) : Piece → sProp 𝕄
  | .a i => xPts c (part c (.a i)) fullShare (xstg m c)
  | .b => xPts c (part c .b) fullShare (xstg m c)
  | .y i => oPts c (part c (.a i)) fullShare.left (outAt m c)
  | .z i => oPts c (part c (.a i)) fullShare.right (outAt m c)

/-- What each cell of device `c` hands over. -/
def pay (c : Dev nD) : Cell → Fin 4 → sProp 𝕄
  | .bar, d => barPay c d
  | .snd p, _ => sndPay m c p
  | .rcv p, _ => oPts c (part c p) fullShare (outAt m c)
  | .cp, _ => iprop(oPts c Finset.univ fullShare (xstg m c) ∗ xPts c Finset.univ fullShare (xstg m c))

instance pay_storable (c : Dev nD) (κ d) : BI.Storable (upEmb : UEmb _ 𝕄) (pay (F := F) m c κ d) := by
  cases κ with
  | bar => show BI.Storable upEmb (barPay c d); unfold barPay; infer_instance
  | snd p =>
    show BI.Storable upEmb (sndPay m c p)
    cases p <;> (dsimp only [sndPay]; infer_instance)
  | rcv p => show BI.Storable upEmb (oPts _ _ _ _); infer_instance
  | cp => show BI.Storable upEmb iprop(oPts _ _ _ _ ∗ xPts _ _ _ _); infer_instance

/-- A piece's bytes, as the DMA semaphores count them: a chunk's, -/
def NA : ℕ := (cc0_stg2_0 : Ref sig .tc).dmaCredit S1x32x512 .f32
/-- the opposite strip's, -/
def NB : ℕ := (cc0_stg2_0 : Ref sig .tc).dmaCredit S1x128x512 .f32
/-- the whole block's. -/
def NC : ℕ := (cc0_stg2_0 : Ref sig .tc).dmaCredit S1x512x512 .f32

def cr : Piece → ℕ
  | .b => NB
  | _ => NA
/-- What one payment onto a cell is. -/
def amt : Cell → ℕ
  | .bar => 1
  | .snd p => cr p
  | .rcv p => cr p
  | .cp => NC

theorem amt_pos (κ : Cell) : 0 < amt κ := by
  have hA : 0 < NA := sig.dmaCredit_pos _ _ _ _ _ (by decide)
  have hB : 0 < NB := sig.dmaCredit_pos _ _ _ _ _ (by decide)
  have hC : 0 < NC := sig.dmaCredit_pos _ _ _ _ _ (by decide)
  cases κ with
  | bar => exact Nat.one_pos
  | snd p => cases p <;> assumption
  | rcv p => cases p <;> assumption
  | cp => exact hC

/-- Who pays a cell, as the direction the payer stands in (3: the device itself). -/
def dut (b : Bool) : Cell → Finset (Fin 4)
  | .bar => if b then {0, 1, 2} else ∅
  | .snd _ => if b then {3} else ∅
  | .rcv p => if b then {dir p} else ∅
  | .cp => if b then ∅ else {3}

/-- One round on every cell. -/
def sched (b : Bool) : Rounds.Schedule (GSem nD τ sig) (Fin 4) 𝕄 where
  duties g r := if r = 0 ∧ g.1.2 = .tc then (match kind g.2 with | some κ => dut b κ | none => ∅) else ∅
  unitless _ := False
  amount g _ _ := match kind g.2 with | some κ => amt κ | none => 1
  payload g _ d := match kind g.2 with | some κ => pay m g.1.1 κ d | none => iprop(emp)
  amount_pos g _ _ _ := by
    cases kind g.2 with
    | none => exact Nat.one_pos
    | some κ => exact amt_pos κ

instance sched_storable (b : Bool) (g : GSem nD τ sig) (r : ℕ) (d : Fin 4) :
    BI.Storable (upEmb : UEmb _ 𝕄) ((sched (F := F) m b).payload g r d) := by
  show BI.Storable upEmb (match kind g.2 with | some κ => pay m g.1.1 κ d | none => iprop(emp))
  cases kind g.2 <;> (dsimp only; infer_instance)

section Read
variable (b : Bool) (c : Dev nD)

omit [FloatOps F] in
theorem duties_at (κ : Cell) : (sched (F := F) m b).duties (cell c κ) 0 = dut b κ := by
  dsimp only [sched]; rw [kind_sem, if_pos ⟨rfl, rfl⟩]
omit [FloatOps F] in
theorem duties_later (g : GSem nD τ sig) : ∀ r, 1 ≤ r → (sched (F := F) m b).duties g r = ∅ :=
  fun r hr => by dsimp only [sched]; exact if_neg fun h => by omega
omit [FloatOps F] in
theorem amount_at (κ : Cell) (d : Fin 4) : (sched (F := F) m b).amount (cell c κ) 0 d = amt κ := by
  dsimp only [sched]; rw [kind_sem]
omit [FloatOps F] in
theorem payload_at (κ : Cell) (d : Fin 4) : (sched (F := F) m b).payload (cell c κ) 0 d = pay m c κ d := by
  dsimp only [sched]; rw [kind_sem]

omit [FloatOps F] in
theorem expect_at (κ : Cell) : (sched (F := F) m b).expect (cell c κ) 0 = (dut b κ).card * amt κ := by
  unfold Schedule.expect Schedule.amountOf
  rw [duties_at, Finset.sum_congr rfl fun d _ => amount_at m b c κ d, Finset.sum_const, smul_eq_mul]

omit [FloatOps F] in
theorem rest_at (κ : Cell) :
    bigSep ((sched (F := F) m b).duties (cell c κ) 0 \ ∅) (fun d => (sched (F := F) m b).payload (cell c κ) 0 d) = bigSep (dut b κ) fun d => pay m c κ d := by
  rw [Finset.sdiff_empty, duties_at]; exact bigSep_congr fun d _ => payload_at m b c κ d

end Read

/-! ## What a device owes, and the levels -/

/-- The pieces in the order their transfers are issued. -/
abbrev order : List Piece := [.a 0, .a 1, .a 2, .a 3, .b, .y 0, .z 0, .y 1, .z 1, .y 2, .z 2, .y 3, .z 3]

/-- The payments device `c` makes onto other devices' cells, listed as (cell, direction) in the order it makes them. -/
def plan : Bool → List (Cell × Fin 4)
  | true => (.bar, 0) :: (.bar, 1) :: (.bar, 2) :: order.map fun p => (Cell.rcv p, dir p)
  | false => []

/-- What is owed for the payments of a list. -/
def owe (c : Dev nD) : List (Cell × Fin 4) → CellTallies nD τ sig Unit
  | [] => 0
  | p :: l => owe c l + tallyAt (cell (nb p.2 c) p.1) () (amt p.1)

/-- The barrier is below what is received, and what the partner sends is below what is forwarded. -/
def level : Cell → ℕ
  | .bar => 1
  | .rcv p => if dir p = 0 then 2 else 3
  | _ => 0

def L (g : GSem nD τ sig) : Finset Unit := if g.1.2 = .tc then {()} else ∅
def lv (g : GSem nD τ sig) (_ : Unit) : ℕ := match kind g.2 with | some κ => level κ | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (κ : Cell) : lv (cell c κ) () = level κ := by unfold lv; rw [kind_sem]

theorem owe_pos {c : Dev nD} {l : List (Cell × Fin 4)} {g : GSem nD τ sig} {u : Unit} (h : 0 < owe c l g u) :
    ∃ p ∈ l, g = cell (nb p.2 c) p.1 := by
  induction l with
  | nil => exact absurd h (Nat.lt_irrefl 0)
  | cons p l ih =>
    unfold owe at h
    rw [Pi.add_apply, Finsupp.add_apply, tallyAt_apply] at h
    by_cases hg : g = cell (nb p.2 c) p.1
    · exact ⟨p, List.mem_cons_self, hg⟩
    · rw [if_neg (fun h' => hg h'.1)] at h
      obtain ⟨p', hp', he⟩ := ih h
      exact ⟨p', List.mem_cons_of_mem _ hp', he⟩

omit [FloatOps F] in
/-- A wait is allowed on a semaphore below every cell still owed. -/
theorem may_wait (c : Dev nD) (sm : SemLoc sig) (n : ℕ) (l : List (Cell × Fin 4)) (hn : lv ((c : Thread nD τ), sm) () = n)
    (hl : ∀ p ∈ l, n < level p.1) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨p, _, rfl⟩ := owe_pos hg; exact Finset.mem_singleton_self _)
    (fun p hp => by rw [Finset.mem_singleton.mp hp]; exact Nat.le_of_eq hn)
    (fun g u hg => by obtain ⟨p, hp, rfl⟩ := owe_pos hg; exact Nat.lt_of_lt_of_eq (hl p hp) (lv_cell _ _).symm)

end Swap

end
-- ==== Proof.Steps.lean ====
/-
# The kernel's steps, one lemma per kind of operation

Between its barrier and its end a device that fetches its partner's block holds `st`: lists of the pieces still to send, of
the pieces whose source is in hand, of the pieces still to arrive, of the transfers in flight, and of what is finished. Each
operation of the kernel takes the head of one list to another.
-/
module

public import proofs.«01_k».proof.Proof.Schedule
public import Idealize.ShloMosaic.Lib.ViewIndex

@[expose] public section

noncomputable section

namespace Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The staged block and the result buffer, as the kernel names them. -/
abbrev xM : Memref sig .tc .vmem S1x512x512 .f32 := Memref.whole cc0_stg1_0
abbrev oM : Memref sig .tc .vmem S1x512x512 .f32 := Memref.whole cc0_stg2_0

/-! ## Lists of resources -/

/-- A resource for each piece of a list. -/
def each (Φ : Piece → sProp 𝕄) : List Piece → sProp 𝕄
  | [] => iprop(emp)
  | p :: l => iprop(Φ p ∗ each Φ l)

omit [FloatOps F] in
theorem each_cons (Φ : Piece → sProp 𝕄) (p : Piece) (l : List Piece) : each Φ (p :: l) = iprop(Φ p ∗ each Φ l) := rfl

omit [FloatOps F] in
theorem each_append (Φ : Piece → sProp 𝕄) (l : List Piece) (p : Piece) : iprop(each Φ l ∗ Φ p) ⊢ each Φ (l ++ [p]) := by
  induction l with
  | nil =>
    show iprop(emp ∗ Φ p) ⊢ iprop(Φ p ∗ emp)
    iintro ⟨-, H⟩
    isplitl [H]; · iexact H
    iempintro
  | cons q l ih =>
    show iprop((Φ q ∗ each Φ l) ∗ Φ p) ⊢ iprop(Φ q ∗ each Φ (l ++ [p]))
    iintro ⟨⟨Hq, Hl⟩, Hp⟩
    isplitl [Hq]; · iexact Hq
    iapply ih
    isplitl [Hl] <;> iassumption

omit [FloatOps F] in
theorem each_eq (Φ : Piece → sProp 𝕄) (l : List Piece) (hn : l.Nodup) : each Φ l = bigSep l.toFinset Φ := by
  induction l with
  | nil => rfl
  | cons p l ih =>
    rw [List.toFinset_cons, bigSep_insert (by rw [List.mem_toFinset]; exact (List.nodup_cons.mp hn).1), ← ih (List.nodup_cons.mp hn).2]
    rfl

omit [FloatOps F] in
/-- Listed once each, in any order, the pieces' resources are all of them. -/
theorem each_univ (Φ : Piece → sProp 𝕄) (l : List Piece) (hn : l.Nodup) (hu : l.toFinset = Finset.univ) : each Φ l = bigSep Finset.univ Φ := by
  rw [each_eq Φ l hn, hu]

/-! ## What the device holds -/

/-- Every cell's invariant, and that every cell's round has begun. -/
def records (b : Bool) (K : Dev nD × Cell → ℕ) : sProp 𝕄 :=
  iprop((bigSep Finset.univ fun ck : Dev nD × Cell => cellInv ER (sched m b) (K ck) (cell ck.1 ck.2))
    ∗ bigSep Finset.univ fun ck : Dev nD × Cell => reached ER (cell ck.1 ck.2) 0)

instance records_persistent (b : Bool) (K : Dev nD × Cell → ℕ) : BI.Persistent (records m b K) := by unfold records; infer_instance

omit [FloatOps F] in
theorem inv_at (b : Bool) (K : Dev nD × Cell → ℕ) (c : Dev nD) (κ : Cell) : records m b K ⊢ cellInv ER (sched m b) (K (c, κ)) (cell c κ) := by
  have h : (bigSep Finset.univ fun ck : Dev nD × Cell => (cellInv ER (sched m b) (K ck) (cell ck.1 ck.2) : sProp 𝕄)) ⊢ cellInv ER (sched m b) (K (c, κ)) (cell c κ) :=
    bigSep_elim (Finset.mem_univ (c, κ))
  unfold records
  iintro ⟨HI, -⟩
  iapply h; iexact HI
omit [FloatOps F] in
theorem reached_at (b : Bool) (K : Dev nD × Cell → ℕ) (c : Dev nD) (κ : Cell) : records m b K ⊢ reached ER (cell c κ) 0 := by
  have h : (bigSep Finset.univ fun ck : Dev nD × Cell => (reached ER (cell ck.1 ck.2) 0 : sProp 𝕄)) ⊢ reached ER (cell c κ) 0 :=
    bigSep_elim (Finset.mem_univ (c, κ))
  unfold records
  iintro ⟨-, HI⟩
  iapply h; iexact HI

/-- What sending a piece takes besides its source and the room for it: the send cell, the tokens of both payments. -/
def kit (c : Dev nD) (p : Piece) : sProp 𝕄 :=
  iprop(atPos ER (cell c (.snd p)) 0 ∅ 0 ∗ dutyTok ER (cell c (.snd p)) 0 3 ∗ dutyTok ER (cell (nb (dir p) c) (.rcv p)) 0 (dir p))
/-- The room: the piece of the neighbour's result buffer. -/
def room (c : Dev nD) (p : Piece) : sProp 𝕄 := iprop(∃ f, oPts (nb (dir p) c) (part (nb (dir p) c) p) fullShare f)
/-- A piece yet to arrive: the receive cell, and the credit to wait on it. -/
def due (c : Dev nD) (p : Piece) : sProp 𝕄 := iprop(atPos ER (cell c (.rcv p)) 0 ∅ 0 ∗ cred (tallyAt (cell c (.rcv p)) () (cr p)))
/-- A piece in flight: the send cell, and the credit to wait on it. -/
def fly (c : Dev nD) (p : Piece) : sProp 𝕄 := iprop(atPos ER (cell c (.snd p)) 0 ∅ 0 ∗ cred (tallyAt (cell c (.snd p)) () (cr p)))
/-- A piece sent and waited for: its send counter at zero, its source back. -/
def sent (c : Dev nD) (p : Piece) : sProp 𝕄 := iprop(semVal (cell c (.snd p)) 0 ∗ sndPay m c p)
/-- What stays in hand of a piece that has arrived: a chunk from the partner goes on to the two neighbours. -/
def kept (c : Dev nD) : Piece → sProp 𝕄
  | .a _ => iprop(emp)
  | p => oPts c (part c p) fullShare (outAt m c)
/-- A piece that has arrived: its receive counter at zero, and that. -/
def here (c : Dev nD) (p : Piece) : sProp 𝕄 := iprop(semVal (cell c (.rcv p)) 0 ∗ kept m c p)

/-- Between the barrier and the end: `ls` to send, `lr` sources in hand, `lw` to arrive, `lf` in flight, `ld` sent and
    waited for, `la` arrived. -/
def st (K : Dev nD × Cell → ℕ) (c : Dev nD) (ls lr lw lf ld la : List Piece) : sProp 𝕄 :=
  iprop(records m true K ∗ levAts L lv ∗ (∃ W, owes (c : Thread nD τ) (owe c (ls.map fun p => (Cell.rcv p, dir p))) W)
    ∗ each (fun p => iprop(kit c p ∗ room c p)) ls ∗ each (sndPay m c) lr ∗ each (due c) lw ∗ each (fly c) lf ∗ each (sent m c) ld ∗ each (here m c) la)

/-! ## Sending -/

section Send

variable {α : Type} {Q : α → sProp (MT nD τ sig Unit (Elt F) ℕ UU ℕ)} {k : PUnit → Prog (TpuEff nD τ sig (Elt F) Λ₀ .tc) α}

/-- Sending the next piece, its source `sv` the rectangle's elements of one of the device's two buffers. -/
theorem send (K : Dev nD × Cell → ℕ) {c n : Dev nD} {p : Piece} (hn : n = nb (dir p) c) {r : Rect S1x512x512} {hu : ∀ a, r.stride a = 1}
    (hset : r.set = part (nb (dir p) c) p) (hcr : (oM.slice r hu).view.dmaCredit = cr p)
    {sv : Memref sig .tc .vmem r.shape .f32} {q : PosShare TreeShare} {fs : Buf (Elt F) (sv.view.loc (c : Thread nD τ))}
    (hsv : (sv.view.loc (c : Thread nD τ) ↦[sv.view.set]{q} fs : sProp 𝕄) = sndPay m c p)
    (hval : ∀ fd, ∀ x ∈ part (nb (dir p) c) p, (oM.slice r hu).view.write (Elt F) fd (sv.view.read (Elt F) fs) Finset.univ x = outAt m (nb (dir p) c) x)
    {sS sR : DmaSem sig} (hS : sS = sndS p) (hR : sR = rcvS p)
    {hsc : ((oM : Memref sig (Dev.tc n : Thread nD τ).2.kind .vmem S1x512x512 .f32).slice r hu).view.ref.isScScratch = false}
    {hsrc : sv.view.WordExact} {hdst : (oM.slice r hu).view.WordExact}
    {hsem : DmaTarget.Typed .vmem (.dma sR) (.remote (Dev.tc n : Thread nD τ) (oM.slice r hu) (.dma sS) hsc)}
    (ls lr lw lf ld la : List Piece) :
    st m K c (p :: ls) (p :: lr) lw lf ld la
      ⊢ iprop((st m K c ls lr lw (lf ++ [p]) ld la -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sv (.remote (Dev.tc n : Thread nD τ) (oM.slice r hu) (.dma sS) hsc) (.dma sR) hsrc hdst hsem) k) Q) := by
  subst hn hS hR
  have hds : (oM.slice r hu).view.set = part (nb (dir p) c) p := (View.set_slice_whole cc0_stg2_0 r).trans hset
  have hroom : ∀ f, ((oM.slice r hu).view.loc (nb (dir p) c : Thread nD τ) ↦[(oM.slice r hu).view.set]{fullShare} f : sProp 𝕄)
      = oPts (nb (dir p) c) (part (nb (dir p) c) p) fullShare f := fun f => by rw [hds]; rfl
  unfold st
  rw [each_cons, each_cons]
  unfold kit room
  iintro ⟨#HR, #HL, ⟨%W, HO⟩, ⟨⟨⟨Hat, HtS, HtR⟩, ⟨%f, Hroom⟩⟩, Hls⟩, ⟨Hsrc, Hlr⟩, Hlw, Hlf, Hld, Hla⟩ Hk
  ihave Hsrc' := (Entails.of_eq hsv.symm) $$ Hsrc
  ihave Hroom' := (Entails.of_eq (hroom f).symm) $$ Hroom
  iapply (Rounds.wp_send_pointsTo 𝒱₀ ER (sched m true) (c : Thread nD τ) none (c' := (nb (dir p) c : Thread nD τ)) (κ₁ := K (c, .snd p)) (κ₂ := K (nb (dir p) c, .rcv p))
    (sS := sem (.snd p)) (sem := sem (.rcv p)) (r₁ := 0) (r₂ := 0) (d₁ := 3) (d₂ := dir p) (fd := f) (fs := fs) (q := q)
    (by rw [duties_at]; exact Finset.mem_singleton_self _) (by rw [duties_at]; exact Finset.mem_singleton_self _)
    () () (cr p) hcr (amount_at m true c (.snd p) 3) (amount_at m true _ (.rcv p) _) (owe c (ls.map fun p => (Cell.rcv p, dir p))) rfl (W := W)
    (by rw [payload_at]; exact Entails.of_eq hsv)
    (by rw [payload_at, hroom]; exact Entails.of_eq (pointsTo_congr fun x hx => hval f x hx))) $$ [Hsrc' Hroom' HO HtS HtR]
  · isplitr; · iapply (inv_at m true K c (.snd p)); iexact HR
    isplitr; · iapply (inv_at m true K (nb (dir p) c) (.rcv p)); iexact HR
    isplitl [Hsrc']; · iexact Hsrc'
    isplitl [Hroom']; · iexact Hroom'
    isplitl [HO]; · iexact HO
    isplitl [HtS]; · iexact HtS
    isplitr; · iapply (reached_at m true K c (.snd p)); iexact HR
    isplitl [HtR]; · iexact HtR
    iapply (reached_at m true K (nb (dir p) c) (.rcv p)); iexact HR
  iintro ⟨Hc, HO⟩
  iapply Hk
  isplitr; · iexact HR
  isplitr; · iexact HL
  isplitl [HO]; · iexists W; iexact HO
  isplitl [Hls]; · iexact Hls
  isplitl [Hlr]; · iexact Hlr
  isplitl [Hlw]; · iexact Hlw
  isplitl [Hlf Hat Hc]
  · iapply (each_append (fly c) lf p)
    isplitl [Hlf]; · iexact Hlf
    unfold fly
    isplitl [Hat]; · iexact Hat
    iexact Hc
  isplitl [Hld] <;> iassumption

/-! The four kinds of sends, each with the rectangle it is issued at. -/

omit [FloatOps F] in
/-- Copied rectangle to rectangle from the block, the result's elements there are the block's; -/
theorem copied_x (r : Rect S1x512x512) (hu hu' : ∀ a, r.stride a = 1) (fs : (cc0_stg1_0 : Ref sig .tc).ty.Contents (Elt F))
    (fd : (cc0_stg2_0 : Ref sig .tc).ty.Contents (Elt F)) (x : S1x512x512.Idx) (hx : x ∈ r.set) :
    (oM.slice r hu).view.write (Elt F) fd ((xM.slice r hu').view.read (Elt F) fs) Finset.univ x = (fs : S1x512x512.Idx → _) x := by
  rw [← View.set_slice_whole cc0_stg2_0 r] at hx
  obtain ⟨y, rfl⟩ := View.exists_of_mem_set_slice hx
  exact (View.write_emb_of_mem (v := (oM.slice r hu).view) (Val := Elt F) fd _ (Finset.mem_univ y)).trans rfl

omit [FloatOps F] in
/-- and from a result buffer, that buffer's. -/
theorem copied_o (r : Rect S1x512x512) (hu hu' : ∀ a, r.stride a = 1) (fs fd : (cc0_stg2_0 : Ref sig .tc).ty.Contents (Elt F))
    (x : S1x512x512.Idx) (hx : x ∈ r.set) :
    (oM.slice r hu).view.write (Elt F) fd ((oM.slice r hu').view.read (Elt F) fs) Finset.univ x = fs x := by
  rw [← View.set_slice_whole cc0_stg2_0 r] at hx
  obtain ⟨y, rfl⟩ := View.exists_of_mem_set_slice hx
  exact (View.write_emb_of_mem (v := (oM.slice r hu).view) (Val := Elt F) fd _ (Finset.mem_univ y)).trans rfl

/-- The rows of chunk `i` of the device's own strip, as the kernel writes them. -/
abbrev chunkR (c : Dev nD) (w : BitVec 32) (h : ∀ a, (k0_off2 c w) a + S1x32x512.size a ≤ S1x512x512.size a) : Rect S1x512x512 :=
  Rect.unit (s := S1x512x512) (k0_off2 c w) S1x32x512.size h
/-- The rows of the opposite strip. -/
abbrev stripR (c : Dev nD) (h : ∀ a, (k0_off3 c) a + S1x128x512.size a ≤ S1x512x512.size a) : Rect S1x512x512 :=
  Rect.unit (s := S1x512x512) (k0_off3 c) S1x128x512.size h

theorem chunkR_set (c : Dev nD) (i : Fin 4) (h) : (chunkR c (BitVec.ofNat 32 (32 * i.val)) h).set = part c (.a i) :=
  rect_rows h (off2_rows c i)
/-- The credit of a rectangle of the result buffer depends on its shape alone. -/
theorem slice_credit (r : Rect S1x512x512) (hu : ∀ a, r.stride a = 1) (s : Shape) (hs : r.shape = s) :
    (oM.slice r hu).view.dmaCredit = (cc0_stg2_0 : Ref sig .tc).dmaCredit s .f32 := by subst hs; rfl
theorem chunkR_credit (c : Dev nD) (w : BitVec 32) (h) (hu : ∀ a, (chunkR c w h).stride a = 1) : (oM.slice (chunkR c w h) hu).view.dmaCredit = NA :=
  slice_credit _ hu S1x32x512 rfl
theorem stripR_credit (c : Dev nD) (h) (hu : ∀ a, (stripR c h).stride a = 1) : (oM.slice (stripR c h) hu).view.dmaCredit = NB :=
  slice_credit _ hu S1x128x512 rfl
theorem stripR_set (c : Dev nD) (h) : (stripR c h).set = part c .b := rect_rows h (off3_rows c)

/-- The block's rectangles count the same. -/
theorem slice_credit_x (r : Rect S1x512x512) (hu : ∀ a, r.stride a = 1) (s : Shape) (hs : r.shape = s) :
    (xM.slice r hu).view.dmaCredit = (cc0_stg1_0 : Ref sig .tc).dmaCredit s .f32 := by subst hs; rfl
theorem chunkR_credit_x (c : Dev nD) (w : BitVec 32) (h) (hu : ∀ a, (chunkR c w h).stride a = 1) : (xM.slice (chunkR c w h) hu).view.dmaCredit = NA :=
  (slice_credit_x _ hu S1x32x512 rfl).trans (by decide +kernel)
theorem stripR_credit_x (c : Dev nD) (h) (hu : ∀ a, (stripR c h).stride a = 1) : (xM.slice (stripR c h) hu).view.dmaCredit = NB :=
  (slice_credit_x _ hu S1x128x512 rfl).trans (by decide +kernel)

/-- Chunk `i` of the device's strip of its block, to the partner. -/
theorem send_a (K : Dev nD × Cell → ℕ) {c n : Dev nD} (i : Fin 4) (hn : n = px c) {h : ∀ a, (k0_off2 c (BitVec.ofNat 32 (32 * i.val))) a + S1x32x512.size a ≤ S1x512x512.size a}
    {hu hu' : ∀ a, (chunkR c (BitVec.ofNat 32 (32 * i.val)) h).stride a = 1}
    {sS sR : DmaSem sig} (hS : sS = sndS (.a i)) (hR : sR = rcvS (.a i))
    {hsc : ((oM : Memref sig (Dev.tc n : Thread nD τ).2.kind .vmem S1x512x512 .f32).slice (chunkR c (BitVec.ofNat 32 (32 * i.val)) h) hu).view.ref.isScScratch = false}
    {hsrc : (xM.slice (chunkR c (BitVec.ofNat 32 (32 * i.val)) h) hu').view.WordExact} {hdst : (oM.slice (chunkR c (BitVec.ofNat 32 (32 * i.val)) h) hu).view.WordExact}
    {hsem : DmaTarget.Typed .vmem (.dma sR) (.remote (Dev.tc n : Thread nD τ) (oM.slice (chunkR c (BitVec.ofNat 32 (32 * i.val)) h) hu) (.dma sS) hsc)}
    (ls lr lw lf ld la : List Piece) :
    st m K c (.a i :: ls) (.a i :: lr) lw lf ld la
      ⊢ iprop((st m K c ls lr lw (lf ++ [.a i]) ld la -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (chunkR c (BitVec.ofNat 32 (32 * i.val)) h) hu')
                (.remote (Dev.tc n : Thread nD τ) (oM.slice (chunkR c (BitVec.ofNat 32 (32 * i.val)) h) hu) (.dma sS) hsc) (.dma sR) hsrc hdst hsem) k) Q) := by
  have hset := chunkR_set c i h
  refine send m K (p := .a i) (sv := xM.slice (chunkR c (BitVec.ofNat 32 (32 * i.val)) h) hu') (q := fullShare) (fs := xstg m c) hn (hset.trans (part_nb c (.a i)).symm) (chunkR_credit c _ h hu) ?_ ?_ hS hR ls lr lw lf ld la
  · rw [show (xM.slice (chunkR c (BitVec.ofNat 32 (32 * i.val)) h) hu').view.set = part c (.a i) from (View.set_slice_whole cc0_stg1_0 _).trans hset]; rfl
  · intro fd x hx
    rw [part_nb] at hx
    rw [copied_x _ _ _ _ _ x (by rw [hset]; exact hx)]
    exact (outAt_x m c (.a i) rfl x hx).symm

/-- The opposite strip of its block, to the partner. -/
theorem send_b (K : Dev nD × Cell → ℕ) {c n : Dev nD} (hn : n = px c) {h : ∀ a, (k0_off3 c) a + S1x128x512.size a ≤ S1x512x512.size a}
    {hu hu' : ∀ a, (stripR c h).stride a = 1} {sS sR : DmaSem sig} (hS : sS = sndS .b) (hR : sR = rcvS .b)
    {hsc : ((oM : Memref sig (Dev.tc n : Thread nD τ).2.kind .vmem S1x512x512 .f32).slice (stripR c h) hu).view.ref.isScScratch = false}
    {hsrc : (xM.slice (stripR c h) hu').view.WordExact} {hdst : (oM.slice (stripR c h) hu).view.WordExact}
    {hsem : DmaTarget.Typed .vmem (.dma sR) (.remote (Dev.tc n : Thread nD τ) (oM.slice (stripR c h) hu) (.dma sS) hsc)}
    (ls lr lw lf ld la : List Piece) :
    st m K c (.b :: ls) (.b :: lr) lw lf ld la
      ⊢ iprop((st m K c ls lr lw (lf ++ [.b]) ld la -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (stripR c h) hu') (.remote (Dev.tc n : Thread nD τ) (oM.slice (stripR c h) hu) (.dma sS) hsc) (.dma sR) hsrc hdst hsem) k) Q) := by
  have hset := stripR_set c h
  refine send m K (p := .b) (sv := xM.slice (stripR c h) hu') (q := fullShare) (fs := xstg m c) hn (hset.trans (part_nb c .b).symm) (stripR_credit c h hu) ?_ ?_ hS hR ls lr lw lf ld la
  · rw [show (xM.slice (stripR c h) hu').view.set = part c .b from (View.set_slice_whole cc0_stg1_0 _).trans hset]; rfl
  · intro fd x hx
    rw [part_nb] at hx
    rw [copied_x _ _ _ _ _ x (by rw [hset]; exact hx)]
    exact (outAt_x m c .b rfl x hx).symm

/-- A chunk that has arrived from the partner, on to a neighbour: `p` is `.y i` or `.z i`. -/
theorem send_fwd (K : Dev nD × Cell → ℕ) {c n : Dev nD} (p : Piece) (i : Fin 4) (hp : p = .y i ∨ p = .z i) (hn : n = nb (dir p) c)
    {h : ∀ a, (k0_off2 c (BitVec.ofNat 32 (32 * i.val))) a + S1x32x512.size a ≤ S1x512x512.size a}
    {hu hu' : ∀ a, (chunkR c (BitVec.ofNat 32 (32 * i.val)) h).stride a = 1} {sS sR : DmaSem sig} (hS : sS = sndS p) (hR : sR = rcvS p)
    {hsc : ((oM : Memref sig (Dev.tc n : Thread nD τ).2.kind .vmem S1x512x512 .f32).slice (chunkR c (BitVec.ofNat 32 (32 * i.val)) h) hu).view.ref.isScScratch = false}
    {hsrc : (oM.slice (chunkR c (BitVec.ofNat 32 (32 * i.val)) h) hu').view.WordExact} {hdst : (oM.slice (chunkR c (BitVec.ofNat 32 (32 * i.val)) h) hu).view.WordExact}
    {hsem : DmaTarget.Typed .vmem (.dma sR) (.remote (Dev.tc n : Thread nD τ) (oM.slice (chunkR c (BitVec.ofNat 32 (32 * i.val)) h) hu) (.dma sS) hsc)}
    (ls lr lw lf ld la : List Piece) :
    st m K c (p :: ls) (p :: lr) lw lf ld la
      ⊢ iprop((st m K c ls lr lw (lf ++ [p]) ld la -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (chunkR c (BitVec.ofNat 32 (32 * i.val)) h) hu')
                (.remote (Dev.tc n : Thread nD τ) (oM.slice (chunkR c (BitVec.ofNat 32 (32 * i.val)) h) hu) (.dma sS) hsc) (.dma sR) hsrc hdst hsem) k) Q) := by
  have hset := chunkR_set c i h
  have hsrcp : src p = .a i := by rcases hp with rfl | rfl <;> rfl
  have hd : dir p ≠ 0 := by rcases hp with rfl | rfl <;> (intro h0; exact absurd (congrArg Fin.val h0) (by show ¬ _ = 0; first | exact Nat.one_ne_zero | exact (by decide : ¬ (2 : ℕ) = 0)))
  have hos : (oM.slice (chunkR c (BitVec.ofNat 32 (32 * i.val)) h) hu').view.set = part c (.a i) := (View.set_slice_whole cc0_stg2_0 _).trans hset
  refine send m K (p := p) (sv := oM.slice (chunkR c (BitVec.ofNat 32 (32 * i.val)) h) hu') (q := if p = .y i then fullShare.left else fullShare.right) (fs := outAt m c) hn
    (hset.trans ((part_nb c p).trans (congrArg (part c) hsrcp)).symm) ?_ ?_ ?_ hS hR ls lr lw lf ld la
  · rcases hp with rfl | rfl <;> exact chunkR_credit c _ h hu
  · rw [hos]
    rcases hp with rfl | rfl
    · rw [if_pos rfl]; rfl
    · rw [if_neg (by rintro ⟨⟩)]; rfl
  · intro fd x hx
    rw [part_nb] at hx
    rw [copied_o _ _ _ _ _ x (by rw [hset, ← hsrcp]; exact hx)]
    exact (outAt_fwd m c p hd x hx).symm

end Send

/-! ## Waiting -/

section Wait

variable {α : Type} {Q : α → sProp (MT nD τ sig Unit (Elt F) ℕ UU ℕ)} {k : PUnit → Prog (TpuEff nD τ sig (Elt F) Λ₀ .tc) α}

/-- The sources that a landing puts in hand: a chunk from the partner is forwarded twice. -/
def push : Piece → List Piece → List Piece
  | .a i, l => .y i :: .z i :: l
  | _, l => l

omit [FloatOps F] in
/-- The landed piece is what stays in hand and the two sources. -/
theorem landed (c : Dev nD) (p : Piece) (lr : List Piece) :
    iprop(oPts c (part c p) fullShare (outAt m c) ∗ each (sndPay m c) lr) ⊢ iprop(kept m c p ∗ each (sndPay m c) (push p lr)) := by
  cases p with
  | a i =>
    have hs := (pointsTo_share (Ix := Unit) (Name := ℕ) (U := UU) (Lvl := ℕ) (ℓ := (c : Thread nD τ).loc cc0_stg2_0) (I := part c (.a i)) (f := outAt m c)
      (PosShare.mem_left_op_right fullShare)).1
    show iprop(oPts c (part c (.a i)) fullShare (outAt m c) ∗ each (sndPay m c) lr)
      ⊢ iprop(emp ∗ oPts c (part c (.a i)) fullShare.left (outAt m c) ∗ oPts c (part c (.a i)) fullShare.right (outAt m c) ∗ each (sndPay m c) lr)
    unfold oPts
    iintro ⟨H, Hl⟩
    ihave H2 := hs $$ H
    icases H2 with ⟨H1, H2⟩
    isplitr; · iempintro
    isplitl [H1]; · iexact H1
    isplitl [H2] <;> iassumption
  | b => exact Entails.rfl
  | y i => exact Entails.rfl
  | z i => exact Entails.rfl

/-- The wait for the next piece to arrive. -/
theorem wait_rcv (K : Dev nD × Cell → ℕ) {c : Dev nD} (p : Piece) {s : Shape} {sv dv : Memref sig .tc .vmem s .f32} {sR : DmaSem sig} (hR : sR = rcvS p)
    (hcr : dv.view.dmaCredit = cr p) {h₁ : sv.view.WordExact} {h₂ : dv.view.WordExact} (ls lr lw lf ld la : List Piece)
    (hlev : ∀ q ∈ ls, level (.rcv p) < level (.rcv q)) :
    st m K c ls lr (p :: lw) lf ld la
      ⊢ iprop((st m K c ls (push p lr) lw lf ld (p :: la) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR sv dv h₁ h₂) k) Q) := by
  subst hR
  have hpay : bigSep ((sched (F := F) m true).duties (cell c (.rcv p)) 0 \ ∅) (fun d => (sched (F := F) m true).payload (cell c (.rcv p)) 0 d)
      = oPts c (part c p) fullShare (outAt m c) := by
    rw [rest_at]; exact bigSep_singleton
  unfold st
  rw [each_cons, each_cons]
  unfold due
  iintro ⟨#HR, #HL, ⟨%W, HO⟩, Hls, Hlr, ⟨⟨Hat, Hc⟩, Hlw⟩, Hlf, Hld, Hla⟩ Hk
  iapply (Rounds.wp_wait_rest_token 𝒱₀ ER (sched m true) (c : Thread nD τ) none (κ := K (c, .rcv p)) (sm := sem (.rcv p)) (k' := cr p)
    (fun Φ => (wpE_waitDma2_eq 𝒱₀ (c : Thread nD τ) none Set.univ Φ).trans (by rw [hcr]; rfl)) (Set.mem_univ _) () (O := owe c (ls.map fun p => (Cell.rcv p, dir p))) (W := W) (R := 0) (m := 0) (T := ∅)
    (by rw [Nat.zero_add, expect_at]; exact (Nat.one_mul _).symm)) $$ [Hc HO Hat]
  · isplitr; · iapply (inv_at m true K c (.rcv p)); iexact HR
    isplitl [Hc]; · iexact Hc
    isplitl [HO]; · iexact HO
    isplitr
    · iapply (may_wait c (sem (.rcv p)) (level (.rcv p)) _ (lv_cell c (.rcv p)) (fun q hq => by
        obtain ⟨q', hq', rfl⟩ := List.mem_map.mp hq; exact hlev q' hq'))
      iexact HL
    iexact Hat
  iintro ⟨HO, Hat, -, Hpay⟩
  ihave Hpay := (Entails.of_eq hpay) $$ Hpay
  imod (Rounds.cell_close ER (sched m true) (Set.mem_univ (K (c, .rcv p))) (fun h => h) (R := 0 + 1) (duties_later m true _)) $$ [Hat] with Hz
  · isplitr; · iapply (inv_at m true K c (.rcv p)); iexact HR
    iexact Hat
  ihave Hln := (landed m c p lr) $$ [Hpay Hlr]
  · isplitl [Hpay] <;> iassumption
  icases Hln with ⟨Hkept, Hlr⟩
  iapply Hk
  isplitr; · iexact HR
  isplitr; · iexact HL
  isplitl [HO]; · iexists _; iexact HO
  isplitl [Hls]; · iexact Hls
  isplitl [Hlr]; · iexact Hlr
  isplitl [Hlw]; · iexact Hlw
  isplitl [Hlf]; · iexact Hlf
  isplitl [Hld]; · iexact Hld
  unfold here
  isplitl [Hz Hkept]
  · isplitl [Hz] <;> iassumption
  iexact Hla

/-- The wait for the next transfer in flight to have left, when nothing more is owed. -/
theorem wait_snd (K : Dev nD × Cell → ℕ) {c : Dev nD} (p : Piece) {s : Shape} {sv dv : Memref sig .tc .vmem s .f32} {sS : DmaSem sig} (hS : sS = sndS p)
    (hcr : dv.view.dmaCredit = cr p) {h₁ : sv.view.WordExact} {h₂ : dv.view.WordExact} (lr lw lf ld la : List Piece) :
    st m K c [] lr lw (p :: lf) ld la
      ⊢ iprop((st m K c [] lr lw lf (p :: ld) la -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS sv dv h₁ h₂) k) Q) := by
  subst hS
  have hpay : bigSep ((sched (F := F) m true).duties (cell c (.snd p)) 0 \ ∅) (fun d => (sched (F := F) m true).payload (cell c (.snd p)) 0 d)
      = sndPay m c p := by
    rw [rest_at]; exact bigSep_singleton
  unfold st
  rw [each_cons, each_cons]
  unfold fly
  iintro ⟨#HR, #HL, ⟨%W, HO⟩, Hls, Hlr, Hlw, ⟨⟨Hat, Hc⟩, Hlf⟩, Hld, Hla⟩ Hk
  iapply (Rounds.wp_wait_rest_token 𝒱₀ ER (sched m true) (c : Thread nD τ) none (κ := K (c, .snd p)) (sm := sem (.snd p)) (k' := cr p)
    (fun Φ => (wpE_waitDma2_eq 𝒱₀ (c : Thread nD τ) none Set.univ Φ).trans (by rw [hcr]; rfl)) (Set.mem_univ _) () (O := 0) (W := W) (R := 0) (m := 0) (T := ∅)
    (by rw [Nat.zero_add, expect_at]; exact (Nat.one_mul _).symm)) $$ [Hc HO Hat]
  · isplitr; · iapply (inv_at m true K c (.snd p)); iexact HR
    isplitl [Hc]; · iexact Hc
    isplitl [HO]; · iexact HO
    isplitr
    · iapply (may_wait c (sem (.snd p)) 0 [] (lv_cell c (.snd p)) (fun q hq => nomatch hq))
      iexact HL
    iexact Hat
  iintro ⟨HO, Hat, -, Hpay⟩
  ihave Hpay := (Entails.of_eq hpay) $$ Hpay
  imod (Rounds.cell_close ER (sched m true) (Set.mem_univ (K (c, .snd p))) (fun h => h) (R := 0 + 1) (duties_later m true _)) $$ [Hat] with Hz
  · isplitr; · iapply (inv_at m true K c (.snd p)); iexact HR
    iexact Hat
  iapply Hk
  isplitr; · iexact HR
  isplitr; · iexact HL
  isplitl [HO]; · iexists _; iexact HO
  isplitl [Hls]; · iexact Hls
  isplitl [Hlr]; · iexact Hlr
  isplitl [Hlw]; · iexact Hlw
  isplitl [Hlf]; · iexact Hlf
  isplitl [Hz Hpay Hld]
  · isplitl [Hz Hpay]
    · unfold sent; isplitl [Hz] <;> iassumption
    iexact Hld
  iexact Hla

end Wait

end Swap

end
-- ==== Proof.Body.lean ====
/-
# The kernel's body

One lemma per part of the body, each at a symbolic device `c`, then the body from what the launch hands the device to what
it hands back, in either of the two ways the kernel runs.
-/
module

public import proofs.«01_k».proof.Proof.Steps
public import proofs.«01_k».proof.Proof.Gen.KernelIdeal.Skeleton

@[expose] public section

noncomputable section

namespace Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The word read from `pi`, and the devices it names -/

/-- The x index of the device whose block `c` takes: the other one's when `b`, else its own. -/
def tgt (b : Bool) (c : Dev nD) : BitVec 32 := BitVec.ofNat 32 (if b then 1 - c.val / 4 else c.val / 4)

theorem chk (b : Bool) (c : Dev nD) : k0_chk1 c (tgt b c) := by revert b c; decide +kernel
theorem cond_swap (c : Dev nD) : k0_cond1 c (tgt true c) = 1#1 := by revert c; decide +kernel
theorem cond_keep (c : Dev nD) : ¬ k0_cond1 c (tgt false c) = 1#1 := by revert c; decide +kernel

theorem dev1 (c : Dev nD) (h) : (⟨k0_dev1 c (tgt true c), h⟩ : Dev nD) = px c :=
  Fin.ext ((by decide +kernel : ∀ c : Dev nD, k0_dev1 c (tgt true c) = (px c).val) c)
theorem dev2 (c : Dev nD) (h) : (⟨k0_dev2 c, h⟩ : Dev nD) = yn c :=
  Fin.ext ((by decide +kernel : ∀ c : Dev nD, k0_dev2 c = (yn c).val) c)
theorem dev3 (c : Dev nD) (h) : (⟨k0_dev3 c, h⟩ : Dev nD) = zn c :=
  Fin.ext ((by decide +kernel : ∀ c : Dev nD, k0_dev3 c = (zn c).val) c)
theorem dev4 (c : Dev nD) (h) : (⟨k0_dev4 c (tgt true c), h⟩ : Dev nD) = px c :=
  Fin.ext ((by decide +kernel : ∀ c : Dev nD, k0_dev4 c (tgt true c) = (px c).val) c)
theorem dev5 (c : Dev nD) (h) : (⟨k0_dev5 c (tgt true c), h⟩ : Dev nD) = px c :=
  Fin.ext ((by decide +kernel : ∀ c : Dev nD, k0_dev5 c (tgt true c) = (px c).val) c)
theorem dev6 (c : Dev nD) (h) : (⟨k0_dev6 c (tgt true c), h⟩ : Dev nD) = px c :=
  Fin.ext ((by decide +kernel : ∀ c : Dev nD, k0_dev6 c (tgt true c) = (px c).val) c)
theorem dev7 (c : Dev nD) (h) : (⟨k0_dev7 c (tgt true c), h⟩ : Dev nD) = px c :=
  Fin.ext ((by decide +kernel : ∀ c : Dev nD, k0_dev7 c (tgt true c) = (px c).val) c)
theorem dev8 (c : Dev nD) (h) : (⟨k0_dev8 c (tgt true c), h⟩ : Dev nD) = px c :=
  Fin.ext ((by decide +kernel : ∀ c : Dev nD, k0_dev8 c (tgt true c) = (px c).val) c)
theorem dev9 (c : Dev nD) (h) : (⟨k0_dev9 c, h⟩ : Dev nD) = yn c :=
  Fin.ext ((by decide +kernel : ∀ c : Dev nD, k0_dev9 c = (yn c).val) c)
theorem dev10 (c : Dev nD) (h) : (⟨k0_dev10 c, h⟩ : Dev nD) = zn c :=
  Fin.ext ((by decide +kernel : ∀ c : Dev nD, k0_dev10 c = (zn c).val) c)
theorem dev11 (c : Dev nD) (h) : (⟨k0_dev11 c, h⟩ : Dev nD) = yn c :=
  Fin.ext ((by decide +kernel : ∀ c : Dev nD, k0_dev11 c = (yn c).val) c)
theorem dev12 (c : Dev nD) (h) : (⟨k0_dev12 c, h⟩ : Dev nD) = zn c :=
  Fin.ext ((by decide +kernel : ∀ c : Dev nD, k0_dev12 c = (zn c).val) c)
theorem dev13 (c : Dev nD) (h) : (⟨k0_dev13 c, h⟩ : Dev nD) = yn c :=
  Fin.ext ((by decide +kernel : ∀ c : Dev nD, k0_dev13 c = (yn c).val) c)
theorem dev14 (c : Dev nD) (h) : (⟨k0_dev14 c, h⟩ : Dev nD) = zn c :=
  Fin.ext ((by decide +kernel : ∀ c : Dev nD, k0_dev14 c = (zn c).val) c)
theorem dev15 (c : Dev nD) (h) : (⟨k0_dev15 c, h⟩ : Dev nD) = yn c :=
  Fin.ext ((by decide +kernel : ∀ c : Dev nD, k0_dev15 c = (yn c).val) c)
theorem dev16 (c : Dev nD) (h) : (⟨k0_dev16 c, h⟩ : Dev nD) = zn c :=
  Fin.ext ((by decide +kernel : ∀ c : Dev nD, k0_dev16 c = (zn c).val) c)

/-! ## The parts -/

section Parts

variable (K : Dev nD × Cell → ℕ) (c : Dev nD)

/-- The pieces sent to the partner. -/
abbrev ownP : List Piece := [.a 0, .a 1, .a 2, .a 3, .b]

/-- Part 2: two chunks to the partner. -/
theorem part2 (hw : k0_chk1 c (tgt true c)) (h1 : k0_cond1 c (tgt true c) = 1#1) (v5 v8 v13 : BitVec 32) (Q : (PUnit) → sProp 𝕄) :
    iprop(st m K c [.a 0, .a 1, .a 2, .a 3, .b, .y 0, .z 0, .y 1, .z 1, .y 2, .z 2, .y 3, .z 3] [.a 0, .a 1, .a 2, .a 3, .b] [.a 0, .a 1, .a 2, .a 3, .b, .y 0, .z 0, .y 1, .z 1, .y 2, .z 2, .y 3, .z 3] [] [] []
        ∗ (∀ r, st m K c [.a 2, .a 3, .b, .y 0, .z 0, .y 1, .z 1, .y 2, .z 2, .y 3, .z 3] [.a 2, .a 3, .b] [.a 0, .a 1, .a 2, .a 3, .b, .y 0, .z 0, .y 1, .z 1, .y 2, .z 2, .y 3, .z 3] [.a 0, .a 1] [] [] -∗ Q r))
      ⊢ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8 c v5 v8 (tgt true c) hw v13 h1) Q := by
  rw [k0_part2_eq_skeleton]; unfold k0_part2_skel
  simp only [Prog.lift, Prog.bind_op, Prog.bind_ret, Prog.pure_eq_ret]
  iintro ⟨H, Hk⟩
  iapply (send_a m K 0 (dev4 c _) rfl rfl _ _ _ _ _ _) $$ H; iintro H
  iapply (send_a m K 1 (dev5 c _) rfl rfl _ _ _ _ _ _) $$ H; iintro H
  rw [wp_ret]; imodintro
  iapply Hk; iexact H

/-- Part 3: the other chunks and the opposite strip to the partner. -/
theorem part3 (hw : k0_chk1 c (tgt true c)) (h1 : k0_cond1 c (tgt true c) = 1#1) (v5 v8 v13 v14 : BitVec 32) (Q : (Σ' (v110 : BitVec 32), BitVec 32) → sProp 𝕄) :
    iprop(st m K c [.a 2, .a 3, .b, .y 0, .z 0, .y 1, .z 1, .y 2, .z 2, .y 3, .z 3] [.a 2, .a 3, .b] [.a 0, .a 1, .a 2, .a 3, .b, .y 0, .z 0, .y 1, .z 1, .y 2, .z 2, .y 3, .z 3] [.a 0, .a 1] [] []
        ∗ (∀ r, st m K c [.y 0, .z 0, .y 1, .z 1, .y 2, .z 2, .y 3, .z 3] [] [.a 0, .a 1, .a 2, .a 3, .b, .y 0, .z 0, .y 1, .z 1, .y 2, .z 2, .y 3, .z 3] [.a 0, .a 1, .a 2, .a 3, .b] [] [] -∗ Q r))
      ⊢ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8 c v5 v8 (tgt true c) hw v13 v14 h1) Q := by
  rw [k0_part3_eq_skeleton]; unfold k0_part3_skel
  simp only [Prog.lift, Prog.bind_op, Prog.bind_ret, Prog.pure_eq_ret]
  iintro ⟨H, Hk⟩
  iapply (send_a m K 2 (dev6 c _) rfl rfl _ _ _ _ _ _) $$ H; iintro H
  iapply (send_a m K 3 (dev7 c _) rfl rfl _ _ _ _ _ _) $$ H; iintro H
  iapply (send_b m K (dev8 c _) rfl rfl _ _ _ _ _ _) $$ H; iintro H
  rw [wp_ret]; imodintro
  iapply Hk; iexact H

/-- Part 4: the first chunk arrives and goes on to both neighbours. -/
theorem part4 (v2 v5 v8 v15 v16 v110 c2_i32_84 : BitVec 32) (Q : (PUnit) → sProp 𝕄) :
    iprop(st m K c [.y 0, .z 0, .y 1, .z 1, .y 2, .z 2, .y 3, .z 3] [] [.a 0, .a 1, .a 2, .a 3, .b, .y 0, .z 0, .y 1, .z 1, .y 2, .z 2, .y 3, .z 3] [.a 0, .a 1, .a 2, .a 3, .b] [] []
        ∗ (∀ r, st m K c [.y 1, .z 1, .y 2, .z 2, .y 3, .z 3] [] [.a 1, .a 2, .a 3, .b, .y 0, .z 0, .y 1, .z 1, .y 2, .z 2, .y 3, .z 3] [.a 0, .a 1, .a 2, .a 3, .b, .y 0, .z 0] [] [.a 0] -∗ Q r))
      ⊢ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8 c v2 v5 v8 v15 v16 v110 c2_i32_84) Q := by
  rw [k0_part4_eq_skeleton]; unfold k0_part4_skel
  simp only [Prog.lift, Prog.bind_op, Prog.bind_ret, Prog.pure_eq_ret]
  iintro ⟨H, Hk⟩
  iapply (wait_rcv m K (.a 0) rfl (chunkR_credit c _ _ _) _ _ _ _ _ _ (by decide)) $$ H; iintro H
  dsimp only [push]
  iapply (send_fwd m K (.y 0) 0 (Or.inl rfl) (dev9 c _) rfl rfl _ _ _ _ _ _) $$ H; iintro H
  iapply (send_fwd m K (.z 0) 0 (Or.inr rfl) (dev10 c _) rfl rfl _ _ _ _ _ _) $$ H; iintro H
  rw [wp_ret]; imodintro
  iapply Hk; iexact H

/-- Part 5: the second arrives and goes on to the y neighbour. -/
theorem part5 (v2 v5 v8 v13 v15 v16 : BitVec 32) (Q : (PUnit) → sProp 𝕄) :
    iprop(st m K c [.y 1, .z 1, .y 2, .z 2, .y 3, .z 3] [] [.a 1, .a 2, .a 3, .b, .y 0, .z 0, .y 1, .z 1, .y 2, .z 2, .y 3, .z 3] [.a 0, .a 1, .a 2, .a 3, .b, .y 0, .z 0] [] [.a 0]
        ∗ (∀ r, st m K c [.z 1, .y 2, .z 2, .y 3, .z 3] [.z 1] [.a 2, .a 3, .b, .y 0, .z 0, .y 1, .z 1, .y 2, .z 2, .y 3, .z 3] [.a 0, .a 1, .a 2, .a 3, .b, .y 0, .z 0, .y 1] [] [.a 1, .a 0] -∗ Q r))
      ⊢ wp frame (wpE (defs₀ (F := F)) 𝒱₀ (c : Thread nD τ) none) Set.univ
          (k0_part5 (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8 c v2 v5 v8 (tgt true c) v13 v15 v16) Q := by
  rw [k0_part5_eq_skeleton]; unfold k0_part5_skel
  simp only [Prog.lift, Prog.bind_op, Prog.bind_ret, Prog.pure_eq_ret]
  iintro ⟨H, Hk⟩
  iapply (wait_rcv m K (.a 1) rfl (chunkR_credit c _ _ _) _ _ _ _ _ _ (by decide)) $$ H; iintro H
  dsimp only [push]
  iapply (send_fwd m K (.y 1) 1 (Or.inl rfl) (dev11 c _) rfl rfl _ _ _ _ _ _) $$ H; iintro H
  rw [wp_ret]; imodintro
  iapply Hk; iexact H

/-- Part 6: and to the z neighbour; the third arrives and goes on to the y neighbour. -/
theorem part6 (v2 v5 v8 v13 v15 : BitVec 32) (Q : (PUnit) → sProp 𝕄) :
    iprop(st m K c [.z 1, .y 2, .z 2, .y 3, .z 3] [.z 1] [.a 2, .a 3, .b, .y 0, .z 0, .y 1, .z 1, .y 2, .z 2, .y 3, .z 3] [.a 0, .a 1, .a 2, .a 3, .b, .y 0, .z 0, .y 1] [] [.a 1, .a 0]
        ∗ (∀ r, st m K c [.z 2, .y 3, .z 3] [.z 2] [.a 3, .b, .y 0, .z 0, .y 1, .z 1, .y 2, .z 2, .y 3, .z 3] [.a 0, .a 1, .a 2, .a 3, .b, .y 0, .z 0, .y 1, .z 1, .y 2] [] [.a 2, .a 1, .a 0] -∗ Q r))
      ⊢ wp frame (wpE (defs₀ (F := F)) 𝒱₀ (c : Thread nD τ) none) Set.univ
          (k0_part6 (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8 c v2 v5 v8 (tgt true c) v13 v15) Q := by
  rw [k0_part6_eq_skeleton]; unfold k0_part6_skel
  simp only [Prog.lift, Prog.bind_op, Prog.bind_ret, Prog.pure_eq_ret]
  iintro ⟨H, Hk⟩
  iapply (send_fwd m K (.z 1) 1 (Or.inr rfl) (dev12 c _) rfl rfl _ _ _ _ _ _) $$ H; iintro H
  iapply (wait_rcv m K (.a 2) rfl (chunkR_credit c _ _ _) _ _ _ _ _ _ (by decide)) $$ H; iintro H
  dsimp only [push]
  iapply (send_fwd m K (.y 2) 2 (Or.inl rfl) (dev13 c _) rfl rfl _ _ _ _ _ _) $$ H; iintro H
  rw [wp_ret]; imodintro
  iapply Hk; iexact H

/-- Part 7: and to the z neighbour; the fourth arrives. -/
theorem part7 (v2 v5 v8 v13 v15 v16 : BitVec 32) (Q : (PUnit) → sProp 𝕄) :
    iprop(st m K c [.z 2, .y 3, .z 3] [.z 2] [.a 3, .b, .y 0, .z 0, .y 1, .z 1, .y 2, .z 2, .y 3, .z 3] [.a 0, .a 1, .a 2, .a 3, .b, .y 0, .z 0, .y 1, .z 1, .y 2] [] [.a 2, .a 1, .a 0]
        ∗ (∀ r, st m K c [.y 3, .z 3] [.y 3, .z 3] [.b, .y 0, .z 0, .y 1, .z 1, .y 2, .z 2, .y 3, .z 3] [.a 0, .a 1, .a 2, .a 3, .b, .y 0, .z 0, .y 1, .z 1, .y 2, .z 2] [] [.a 3, .a 2, .a 1, .a 0] -∗ Q r))
      ⊢ wp frame (wpE (defs₀ (F := F)) 𝒱₀ (c : Thread nD τ) none) Set.univ
          (k0_part7 (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8 c v2 v5 v8 (tgt true c) v13 v15 v16) Q := by
  rw [k0_part7_eq_skeleton]; unfold k0_part7_skel
  simp only [Prog.lift, Prog.bind_op, Prog.bind_ret, Prog.pure_eq_ret]
  iintro ⟨H, Hk⟩
  iapply (send_fwd m K (.z 2) 2 (Or.inr rfl) (dev14 c _) rfl rfl _ _ _ _ _ _) $$ H; iintro H
  iapply (wait_rcv m K (.a 3) rfl (chunkR_credit c _ _ _) _ _ _ _ _ _ (by decide)) $$ H; iintro H
  dsimp only [push]
  rw [wp_ret]; imodintro
  iapply Hk; iexact H

/-- Part 8: and goes on to both; the opposite strip arrives. -/
theorem part8 (v2 v5 v8 v15 v16 : BitVec 32) (Q : (Σ' (v262 : BitVec 32), BitVec 32) → sProp 𝕄) :
    iprop(st m K c [.y 3, .z 3] [.y 3, .z 3] [.b, .y 0, .z 0, .y 1, .z 1, .y 2, .z 2, .y 3, .z 3] [.a 0, .a 1, .a 2, .a 3, .b, .y 0, .z 0, .y 1, .z 1, .y 2, .z 2] [] [.a 3, .a 2, .a 1, .a 0]
        ∗ (∀ r, st m K c [] [] [.y 0, .z 0, .y 1, .z 1, .y 2, .z 2, .y 3, .z 3] [.a 0, .a 1, .a 2, .a 3, .b, .y 0, .z 0, .y 1, .z 1, .y 2, .z 2, .y 3, .z 3] [] [.b, .a 3, .a 2, .a 1, .a 0] -∗ Q r))
      ⊢ wp frame (wpE (defs₀ (F := F)) 𝒱₀ (c : Thread nD τ) none) Set.univ
          (k0_part8 (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8 c v2 v5 v8 (tgt true c) v15 v16) Q := by
  rw [k0_part8_eq_skeleton]; unfold k0_part8_skel
  simp only [Prog.lift, Prog.bind_op, Prog.bind_ret, Prog.pure_eq_ret]
  iintro ⟨H, Hk⟩
  iapply (send_fwd m K (.y 3) 3 (Or.inl rfl) (dev15 c _) rfl rfl _ _ _ _ _ _) $$ H; iintro H
  iapply (send_fwd m K (.z 3) 3 (Or.inr rfl) (dev16 c _) rfl rfl _ _ _ _ _ _) $$ H; iintro H
  iapply (wait_rcv m K .b rfl (stripR_credit c _ _) _ _ _ _ _ _ (by decide)) $$ H; iintro H
  rw [wp_ret]; imodintro
  iapply Hk; iexact H

/-- Part 9: forwarded chunks arrive. -/
theorem part9 (v2 v5 v8 v15 v16 v262 c1_i32_219 : BitVec 32) (Q : (Σ' (v290 : BitVec 32), BitVec 32) → sProp 𝕄) :
    iprop(st m K c [] [] [.y 0, .z 0, .y 1, .z 1, .y 2, .z 2, .y 3, .z 3] [.a 0, .a 1, .a 2, .a 3, .b, .y 0, .z 0, .y 1, .z 1, .y 2, .z 2, .y 3, .z 3] [] [.b, .a 3, .a 2, .a 1, .a 0]
        ∗ (∀ r, st m K c [] [] [.z 1, .y 2, .z 2, .y 3, .z 3] [.a 0, .a 1, .a 2, .a 3, .b, .y 0, .z 0, .y 1, .z 1, .y 2, .z 2, .y 3, .z 3] [] [.y 1, .z 0, .y 0, .b, .a 3, .a 2, .a 1, .a 0] -∗ Q r))
      ⊢ wp frame (wpE (defs₀ (F := F)) 𝒱₀ (c : Thread nD τ) none) Set.univ
          (k0_part9 (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8 c v2 v5 v8 v15 v16 v262 c1_i32_219) Q := by
  rw [k0_part9_eq_skeleton]; unfold k0_part9_skel
  simp only [Prog.lift, Prog.bind_op, Prog.bind_ret, Prog.pure_eq_ret]
  iintro ⟨H, Hk⟩
  iapply (wait_rcv m K (.y 0) rfl (chunkR_credit c _ _ _) _ _ _ _ _ _ (by decide)) $$ H; iintro H
  iapply (wait_rcv m K (.z 0) rfl (chunkR_credit c _ _ _) _ _ _ _ _ _ (by decide)) $$ H; iintro H
  iapply (wait_rcv m K (.y 1) rfl (chunkR_credit c _ _ _) _ _ _ _ _ _ (by decide)) $$ H; iintro H
  rw [wp_ret]; imodintro
  iapply Hk; iexact H

/-- Part 10: more of them. -/
theorem part10 (v2 v5 v8 v15 v16 v290 c2_i32_248 : BitVec 32) (Q : (BitVec 32) → sProp 𝕄) :
    iprop(st m K c [] [] [.z 1, .y 2, .z 2, .y 3, .z 3] [.a 0, .a 1, .a 2, .a 3, .b, .y 0, .z 0, .y 1, .z 1, .y 2, .z 2, .y 3, .z 3] [] [.y 1, .z 0, .y 0, .b, .a 3, .a 2, .a 1, .a 0]
        ∗ (∀ r, st m K c [] [] [.y 3, .z 3] [.a 0, .a 1, .a 2, .a 3, .b, .y 0, .z 0, .y 1, .z 1, .y 2, .z 2, .y 3, .z 3] [] [.z 2, .y 2, .z 1, .y 1, .z 0, .y 0, .b, .a 3, .a 2, .a 1, .a 0] -∗ Q r))
      ⊢ wp frame (wpE (defs₀ (F := F)) 𝒱₀ (c : Thread nD τ) none) Set.univ
          (k0_part10 (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8 c v2 v5 v8 v15 v16 v290 c2_i32_248) Q := by
  rw [k0_part10_eq_skeleton]; unfold k0_part10_skel
  simp only [Prog.lift, Prog.bind_op, Prog.bind_ret, Prog.pure_eq_ret]
  iintro ⟨H, Hk⟩
  iapply (wait_rcv m K (.z 1) rfl (chunkR_credit c _ _ _) _ _ _ _ _ _ (by decide)) $$ H; iintro H
  iapply (wait_rcv m K (.y 2) rfl (chunkR_credit c _ _ _) _ _ _ _ _ _ (by decide)) $$ H; iintro H
  iapply (wait_rcv m K (.z 2) rfl (chunkR_credit c _ _ _) _ _ _ _ _ _ (by decide)) $$ H; iintro H
  rw [wp_ret]; imodintro
  iapply Hk; iexact H

/-- Part 11: the last two; the first transfer has left. -/
theorem part11 (v2 v5 v8 v15 v16 v319 : BitVec 32) (Q : (PUnit) → sProp 𝕄) :
    iprop(st m K c [] [] [.y 3, .z 3] [.a 0, .a 1, .a 2, .a 3, .b, .y 0, .z 0, .y 1, .z 1, .y 2, .z 2, .y 3, .z 3] [] [.z 2, .y 2, .z 1, .y 1, .z 0, .y 0, .b, .a 3, .a 2, .a 1, .a 0]
        ∗ (∀ r, st m K c [] [] [] [.a 1, .a 2, .a 3, .b, .y 0, .z 0, .y 1, .z 1, .y 2, .z 2, .y 3, .z 3] [.a 0] [.z 3, .y 3, .z 2, .y 2, .z 1, .y 1, .z 0, .y 0, .b, .a 3, .a 2, .a 1, .a 0] -∗ Q r))
      ⊢ wp frame (wpE (defs₀ (F := F)) 𝒱₀ (c : Thread nD τ) none) Set.univ
          (k0_part11 (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8 c v2 v5 v8 v15 v16 v319) Q := by
  rw [k0_part11_eq_skeleton]; unfold k0_part11_skel
  simp only [Prog.lift, Prog.bind_op, Prog.bind_ret, Prog.pure_eq_ret]
  iintro ⟨H, Hk⟩
  iapply (wait_rcv m K (.y 3) rfl (chunkR_credit c _ _ _) _ _ _ _ _ _ (by decide)) $$ H; iintro H
  iapply (wait_rcv m K (.z 3) rfl (chunkR_credit c _ _ _) _ _ _ _ _ _ (by decide)) $$ H; iintro H
  iapply (wait_snd m K (.a 0) rfl (chunkR_credit_x c _ _ _) _ _ _ _ _) $$ H; iintro H
  rw [wp_ret]; imodintro
  iapply Hk; iexact H

/-- Part 12: six more have. -/
theorem part12 (Q : (PUnit) → sProp 𝕄) :
    iprop(st m K c [] [] [] [.a 1, .a 2, .a 3, .b, .y 0, .z 0, .y 1, .z 1, .y 2, .z 2, .y 3, .z 3] [.a 0] [.z 3, .y 3, .z 2, .y 2, .z 1, .y 1, .z 0, .y 0, .b, .a 3, .a 2, .a 1, .a 0]
        ∗ (∀ r, st m K c [] [] [] [.y 1, .z 1, .y 2, .z 2, .y 3, .z 3] [.z 0, .y 0, .b, .a 3, .a 2, .a 1, .a 0] [.z 3, .y 3, .z 2, .y 2, .z 1, .y 1, .z 0, .y 0, .b, .a 3, .a 2, .a 1, .a 0] -∗ Q r))
      ⊢ wp frame (wpE (defs₀ (F := F)) 𝒱₀ (c : Thread nD τ) none) Set.univ
          (k0_part12 (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8 c ) Q := by
  rw [k0_part12_eq_skeleton]; unfold k0_part12_skel
  simp only [Prog.lift, Prog.bind_op, Prog.bind_ret, Prog.pure_eq_ret]
  iintro ⟨H, Hk⟩
  iapply (wait_snd m K (.a 1) rfl (chunkR_credit_x c _ _ _) _ _ _ _ _) $$ H; iintro H
  iapply (wait_snd m K (.a 2) rfl (chunkR_credit_x c _ _ _) _ _ _ _ _) $$ H; iintro H
  iapply (wait_snd m K (.a 3) rfl (chunkR_credit_x c _ _ _) _ _ _ _ _) $$ H; iintro H
  iapply (wait_snd m K .b rfl (stripR_credit_x c _ _) _ _ _ _ _) $$ H; iintro H
  iapply (wait_snd m K (.y 0) rfl (chunkR_credit c _ _ _) _ _ _ _ _) $$ H; iintro H
  iapply (wait_snd m K (.z 0) rfl (chunkR_credit c _ _ _) _ _ _ _ _) $$ H; iintro H
  rw [wp_ret]; imodintro
  iapply Hk; iexact H

/-- Part 13: five more have. -/
theorem part13 (Q : (PUnit) → sProp 𝕄) :
    iprop(st m K c [] [] [] [.y 1, .z 1, .y 2, .z 2, .y 3, .z 3] [.z 0, .y 0, .b, .a 3, .a 2, .a 1, .a 0] [.z 3, .y 3, .z 2, .y 2, .z 1, .y 1, .z 0, .y 0, .b, .a 3, .a 2, .a 1, .a 0]
        ∗ (∀ r, st m K c [] [] [] [.z 3] [.y 3, .z 2, .y 2, .z 1, .y 1, .z 0, .y 0, .b, .a 3, .a 2, .a 1, .a 0] [.z 3, .y 3, .z 2, .y 2, .z 1, .y 1, .z 0, .y 0, .b, .a 3, .a 2, .a 1, .a 0] -∗ Q r))
      ⊢ wp frame (wpE (defs₀ (F := F)) 𝒱₀ (c : Thread nD τ) none) Set.univ
          (k0_part13 (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8 c ) Q := by
  rw [k0_part13_eq_skeleton]; unfold k0_part13_skel
  simp only [Prog.lift, Prog.bind_op, Prog.bind_ret, Prog.pure_eq_ret]
  iintro ⟨H, Hk⟩
  iapply (wait_snd m K (.y 1) rfl (chunkR_credit c _ _ _) _ _ _ _ _) $$ H; iintro H
  iapply (wait_snd m K (.z 1) rfl (chunkR_credit c _ _ _) _ _ _ _ _) $$ H; iintro H
  iapply (wait_snd m K (.y 2) rfl (chunkR_credit c _ _ _) _ _ _ _ _) $$ H; iintro H
  iapply (wait_snd m K (.z 2) rfl (chunkR_credit c _ _ _) _ _ _ _ _) $$ H; iintro H
  iapply (wait_snd m K (.y 3) rfl (chunkR_credit c _ _ _) _ _ _ _ _) $$ H; iintro H
  rw [wp_ret]; imodintro
  iapply Hk; iexact H

end Parts

end Swap

end
-- ==== Proof.Device.lean ====
/-
# One device's run of the body

From what the launch hands device `c` to what it hands back, in either of the two ways the kernel runs.
-/
module

public import proofs.«01_k».proof.Proof.Body

@[expose] public section

noncomputable section

namespace Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the launch hands a device, and what the device hands back -/

/-- What other devices will have paid onto a cell. -/
def dueAmt (b : Bool) : Cell → ℕ
  | .bar => if b then 3 else 0
  | .rcv p => if b then cr p else 0
  | _ => 0

/-- The invariants, the device's place on each of its cells, the tokens of the payments it makes, the credit of the payments
    made to it, and the levels. -/
def hold (b : Bool) (K : Dev nD × Cell → ℕ) (c : Dev nD) : sProp 𝕄 :=
  iprop(records m b K ∗ (bigSep Finset.univ fun κ => atPos ER (cell c κ) 0 ∅ 0)
    ∗ (bigSep Finset.univ fun κ => bigSep (dut b κ) fun d => dutyTok ER (cell (nb d c) κ) 0 d)
    ∗ (bigSep Finset.univ fun κ => cred (tallyAt (cell c κ) () (dueAmt b κ))) ∗ levAts L lv)

/-- What the result buffer ends with. -/
def res (b : Bool) (c : Dev nD) : (cc0_stg2_0 : Ref sig .tc).ty.Contents (Elt F) := if b then outAt m c else xstg m c

/-- Every counter at zero. -/
def zeros (c : Dev nD) : sProp 𝕄 := bigSep Finset.univ fun κ => semVal (cell c κ) 0

/-- At the end: the counters, nothing owed, the block as it was, the result. -/
def done (b : Bool) (c : Dev nD) : sProp 𝕄 :=
  iprop(zeros c ∗ (∃ W, owes (c : Thread nD τ) 0 W) ∗ xPts c Finset.univ fullShare (xstg m c) ∗ oPts c Finset.univ fullShare (res m b c))

/-! ## Regrouping -/

omit [FloatOps F] in
theorem cells_split (Φ : Cell → sProp 𝕄) :
    bigSep Finset.univ Φ = iprop(Φ .bar ∗ Φ .cp ∗ (bigSep Finset.univ fun p => Φ (.snd p)) ∗ bigSep Finset.univ fun p => Φ (.rcv p)) := by
  have hs : Function.Injective Cell.snd := fun a b h => by cases h; rfl
  have hr : Function.Injective Cell.rcv := fun a b h => by cases h; rfl
  have hu : (Finset.univ : Finset Cell)
      = insert .bar (insert .cp ((Finset.univ : Finset Piece).map ⟨Cell.snd, hs⟩ ∪ (Finset.univ : Finset Piece).map ⟨Cell.rcv, hr⟩)) := by
    ext κ; cases κ <;> simp
  rw [hu, bigSep_insert (by simp), bigSep_insert (by simp), bigSep_union (by rw [Finset.disjoint_left]; simp), bigSep_map, bigSep_map]
  rfl

omit [FloatOps F] in
theorem pieces_order (Φ : Piece → sProp 𝕄) : bigSep Finset.univ Φ = each Φ order :=
  (each_univ Φ order (by decide) (by decide)).symm

omit [FloatOps F] in
theorem each_mono {Φ Ψ : Piece → sProp 𝕄} (h : ∀ p, Φ p ⊢ Ψ p) (l : List Piece) : each Φ l ⊢ each Ψ l := by
  induction l with
  | nil => exact Entails.rfl
  | cons p l ih => exact BIClass.sep_mono (h p) ih

omit [FloatOps F] in
theorem each_sep (Φ Ψ : Piece → sProp 𝕄) (l : List Piece) : iprop(each Φ l ∗ each Ψ l) ⊢ each (fun p => iprop(Φ p ∗ Ψ p)) l := by
  induction l with
  | nil =>
    show iprop(emp ∗ emp) ⊢ iprop(emp)
    iintro -; iempintro
  | cons p l ih =>
    show iprop((Φ p ∗ each Φ l) ∗ (Ψ p ∗ each Ψ l)) ⊢ iprop((Φ p ∗ Ψ p) ∗ each (fun p => iprop(Φ p ∗ Ψ p)) l)
    iintro ⟨⟨H1, H2⟩, ⟨H3, H4⟩⟩
    isplitl [H1 H3]
    · isplitl [H1] <;> iassumption
    iapply ih
    isplitl [H2] <;> iassumption

omit [FloatOps F] in
theorem each_unsep (Φ Ψ : Piece → sProp 𝕄) (l : List Piece) : each (fun p => iprop(Φ p ∗ Ψ p)) l ⊢ iprop(each Φ l ∗ each Ψ l) := by
  induction l with
  | nil =>
    show iprop(emp) ⊢ iprop(emp ∗ emp)
    iintro -; isplitl <;> iempintro
  | cons p l ih =>
    show iprop((Φ p ∗ Ψ p) ∗ each (fun p => iprop(Φ p ∗ Ψ p)) l) ⊢ iprop((Φ p ∗ each Φ l) ∗ (Ψ p ∗ each Ψ l))
    iintro ⟨⟨H1, H2⟩, H3⟩
    ihave H4 := ih $$ H3
    icases H4 with ⟨H4, H5⟩
    isplitl [H1 H4]
    · isplitl [H1] <;> iassumption
    isplitl [H2] <;> iassumption

omit [FloatOps F] in
/-- A whole result buffer is the pieces that each of the three neighbours will write. -/
theorem out_split (c : Dev nD) (f : (cc0_stg2_0 : Ref sig .tc).ty.Contents (Elt F)) :
    oPts c Finset.univ fullShare f ⊢ iprop(barPay (nb 0 c) 0 ∗ barPay (nb 1 c) 1 ∗ barPay (nb 2 c) 2) := by
  have hu : (Finset.univ : Finset Piece) = going 0 ∪ (going 1 ∪ going 2) := by decide
  have hp : ∀ d : Fin 4, (bigSep (going d) fun p => oPts c (part c p) fullShare f) ⊢ barPay (nb d c) d := fun d => by
    unfold barPay
    iintro H
    iexists f
    rw [nb_nb]
    iexact H
  rw [oPts_pieces, hu, bigSep_union (by decide), bigSep_union (by decide)]
  exact BIClass.sep_mono (hp 0) (BIClass.sep_mono (hp 1) (hp 2))

omit [FloatOps F] in
/-- What comes with the three units of the barrier is the room for every piece. -/
theorem rooms (c : Dev nD) : iprop(barPay c 0 ∗ barPay c 1 ∗ barPay c 2) ⊢ each (room (F := F) c) order := by
  have hu : (Finset.univ : Finset Piece) = going 0 ∪ (going 1 ∪ going 2) := by decide
  have hp : ∀ d : Fin 4, barPay c d ⊢ bigSep (going d) (room (F := F) c) := fun d => by
    have h : ∀ f : (cc0_stg2_0 : Ref sig .tc).ty.Contents (Elt F), (bigSep (going d) fun p => oPts (nb d c) (part (nb d c) p) fullShare f) ⊢ bigSep (going d) (room (F := F) c) := fun f =>
      bigSep_mono fun p hp' => by
        have hd : dir p = d := (Finset.mem_filter.mp hp').2
        show (oPts (nb d c) (part (nb d c) p) fullShare f : sProp 𝕄) ⊢ room c p
        unfold room
        rw [hd]
        iintro H
        iexists f
        iexact H
    unfold barPay
    iintro ⟨%f, H⟩
    iapply (h f)
    iexact H
  rw [← pieces_order, hu, bigSep_union (by decide), bigSep_union (by decide)]
  exact BIClass.sep_mono (hp 0) (BIClass.sep_mono (hp 1) (hp 2))

/-! ## The barrier -/

section Barrier

variable (K : Dev nD × Cell → ℕ) (c : Dev nD)

/-- A unit to the barrier of the neighbour in direction `d`, with the pieces of the device's result buffer which that neighbour
    writes. -/
theorem signal {n : Dev nD} (d : Fin 4) (hd : d ∈ ({0, 1, 2} : Finset (Fin 4))) (hn : n = nb d c) (l : List (Cell × Fin 4)) (W : Waits sig Unit)
    {α : Type} {Q : α → sProp 𝕄} {k : PUnit → Prog (TpuEff nD τ sig (Elt F) Λ₀ .tc) α} :
    iprop(records m true K ∗ owes (c : Thread nD τ) (owe c ((.bar, d) :: l)) W ∗ dutyTok ER (cell (nb d c) .bar) 0 d ∗ barPay (nb d c) d)
      ⊢ iprop((owes (c : Thread nD τ) (owe c l) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS (1#32).toInt) k) Q) := by
  subst hn
  have hpl : (barPay (nb d c) d : sProp 𝕄) ⊢ (sched m true).payload ((nb d c : Thread nD τ), .reg barS) 0 d := Entails.of_eq (payload_at m true (nb d c) .bar d).symm
  rw [show (1#32 : BitVec 32).toInt = ((1#32 : BitVec 32).toNat : Int) from rfl]
  iintro ⟨#HR, HO, Ht, Hp⟩ Hk
  iapply (Rounds.wp_signal 𝒱₀ ER (sched m true) (c : Thread nD τ) none (dst := (nb d c : Thread nD τ)) (κ := K (nb d c, .bar)) (d := d)
      (by show d ∈ (sched m true).duties (cell (nb d c) .bar) 0; rw [duties_at m true (nb d c) .bar]; exact hd) ((amount_at m true (nb d c) .bar d).trans (by decide)) () (owe c l) rfl) $$ [HO Ht Hp]
  · isplitr; · iapply (inv_at m true K (nb d c) .bar); iexact HR
    isplitl [HO]; · iexact HO
    isplitl [Ht]; · iexact Ht
    isplitl [Hp]; · iapply hpl; iexact Hp
    iapply (reached_at m true K (nb d c) .bar); iexact HR
  iexact Hk

/-- The wait for the three neighbours: the room for every piece. -/
theorem meet (W : Waits sig Unit) {α : Type} {Q : α → sProp 𝕄} {k : PUnit → Prog (TpuEff nD τ sig (Elt F) Λ₀ .tc) α} :
    iprop(records m true K ∗ levAts L lv ∗ owes (c : Thread nD τ) (owe c (order.map fun p => (Cell.rcv p, dir p))) W ∗ atPos ER (cell c .bar) 0 ∅ 0 ∗ cred (tallyAt (cell c .bar) () 3))
      ⊢ iprop((((∃ W, owes (c : Thread nD τ) (owe c (order.map fun p => (Cell.rcv p, dir p))) W) ∗ semVal (cell c .bar) 0 ∗ each (room c) order)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toInt) k) Q) := by
  have hpay : bigSep ((sched (F := F) m true).duties ((c : Thread nD τ), .reg barS) 0 \ ∅) (fun d => (sched (F := F) m true).payload ((c : Thread nD τ), .reg barS) 0 d)
      = iprop(barPay c 0 ∗ barPay c 1 ∗ barPay c 2) := by
    refine (rest_at m true c .bar).trans ?_
    show bigSep ({0, 1, 2} : Finset (Fin 4)) (fun d => barPay c d) = _
    rw [bigSep_insert (by decide), bigSep_insert (by decide), bigSep_singleton]
    rfl
  rw [show (3#32 : BitVec 32).toInt = ((3#32 : BitVec 32).toNat : Int) from rfl]
  iintro ⟨#HR, #HL, HO, Hat, Hc⟩ Hk
  iapply (Rounds.wp_wait_rest_token 𝒱₀ ER (sched m true) (c : Thread nD τ) none (κ := K (c, .bar))
      (wpE_semWait_eq 𝒱₀ (c : Thread nD τ) none Set.univ) (Set.mem_univ _) () (O := owe c (order.map fun p => (Cell.rcv p, dir p))) (W := W) (R := 0) (m := 0) (T := ∅)
      ((show 0 + (3#32).toNat = (dut true .bar).card * amt .bar by decide).trans (expect_at m true c .bar).symm)) $$ [Hc HO Hat]
  · isplitr; · iapply (inv_at m true K c .bar); iexact HR
    isplitl [Hc]; · iexact Hc
    isplitl [HO]; · iexact HO
    isplitr
    · iapply (may_wait c (sem .bar) 1 _ (lv_cell c .bar) (by decide)); iexact HL
    iexact Hat
  iintro ⟨HO, Hat, -, Hpay⟩
  ihave Hpay := (Entails.of_eq hpay) $$ Hpay
  imod (Rounds.cell_close ER (sched m true) (Set.mem_univ (K (c, .bar))) (fun h => h) (R := 0 + 1) (duties_later m true _)) $$ [Hat] with Hz
  · isplitr; · iapply (inv_at m true K c .bar); iexact HR
    iexact Hat
  iapply Hk
  isplitl [HO]; · iexists _; iexact HO
  isplitl [Hz]; · iexact Hz
  iapply (rooms c); iexact Hpay

/-- Part 1: a unit to each of the three neighbours, and the wait for theirs. -/
theorem part1 (hw : k0_chk1 c (tgt true c)) (h1 : k0_cond1 c (tgt true c) = 1#1) (v2 v5 v8 v13 v15 v16 : BitVec 32) (f : (cc0_stg2_0 : Ref sig .tc).ty.Contents (Elt F)) (W : Waits sig Unit)
    (Q : PUnit → sProp 𝕄) :
    iprop((records m true K ∗ levAts L lv ∗ owes (c : Thread nD τ) (owe c (plan true)) W ∗ atPos ER (cell c .bar) 0 ∅ 0 ∗ cred (tallyAt (cell c .bar) () 3)
          ∗ dutyTok ER (cell (nb 0 c) .bar) 0 0 ∗ dutyTok ER (cell (nb 1 c) .bar) 0 1 ∗ dutyTok ER (cell (nb 2 c) .bar) 0 2 ∗ oPts c Finset.univ fullShare f)
        ∗ (∀ r, ((∃ W, owes (c : Thread nD τ) (owe c (order.map fun p => (Cell.rcv p, dir p))) W) ∗ semVal (cell c .bar) 0 ∗ each (room c) order) -∗ Q r))
      ⊢ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8 c v2 v5 v8 (tgt true c) hw v13 v15 v16 h1) Q := by
  rw [k0_part1_eq_skeleton]; unfold k0_part1_skel
  simp only [semSignalWord, semWaitWord, Prog.lift, Prog.bind_op, Prog.bind_ret, Prog.pure_eq_ret]
  iintro ⟨⟨#HR, #HL, HO, Hat, Hc, Ht0, Ht1, Ht2, Hout⟩, Hk⟩
  ihave Hp := (out_split c f) $$ Hout
  icases Hp with ⟨Hp0, Hp1, Hp2⟩
  iapply (signal m K c 0 (by decide) (dev1 c _) ((.bar, 1) :: (.bar, 2) :: order.map fun p => (Cell.rcv p, dir p)) W) $$ [HO Ht0 Hp0]
  · isplitr; · iexact HR
    isplitl [HO]; · iexact HO
    isplitl [Ht0] <;> iassumption
  iintro HO
  iapply (signal m K c 1 (by decide) (dev2 c _) ((.bar, 2) :: order.map fun p => (Cell.rcv p, dir p)) W) $$ [HO Ht1 Hp1]
  · isplitr; · iexact HR
    isplitl [HO]; · iexact HO
    isplitl [Ht1] <;> iassumption
  iintro HO
  iapply (signal m K c 2 (by decide) (dev3 c _) (order.map fun p => (Cell.rcv p, dir p)) W) $$ [HO Ht2 Hp2]
  · isplitr; · iexact HR
    isplitl [HO]; · iexact HO
    isplitl [Ht2] <;> iassumption
  iintro HO
  iapply (meet m K c W) $$ [HO Hat Hc]
  · isplitr; · iexact HR
    isplitr; · iexact HL
    isplitl [HO]; · iexact HO
    isplitl [Hat] <;> iassumption
  iintro H
  rw [wp_ret]; imodintro
  iapply Hk; iexact H

end Barrier

/-! ## In and out of the exchange -/

section Exchange

variable (K : Dev nD × Cell → ℕ) (c : Dev nD)

/-- What the launch hands over, sorted by what it is for. -/
theorem enter : hold (F := F) m true K c
    ⊢ iprop(records m true K ∗ levAts L lv
        ∗ (atPos ER (cell c .bar) 0 ∅ 0 ∗ cred (tallyAt (cell c .bar) () 3) ∗ dutyTok ER (cell (nb 0 c) .bar) 0 0 ∗ dutyTok ER (cell (nb 1 c) .bar) 0 1 ∗ dutyTok ER (cell (nb 2 c) .bar) 0 2)
        ∗ each (kit (F := F) c) order ∗ each (due (F := F) c) order ∗ atPos ER (cell c .cp) 0 ∅ 0) := by
  have htb : (bigSep (dut true .bar) fun d => (dutyTok ER (cell (nb d c) .bar) 0 d : sProp 𝕄))
      = iprop(dutyTok ER (cell (nb 0 c) .bar) 0 0 ∗ dutyTok ER (cell (nb 1 c) .bar) 0 1 ∗ dutyTok ER (cell (nb 2 c) .bar) 0 2) := by
    show bigSep ({0, 1, 2} : Finset (Fin 4)) _ = _
    rw [bigSep_insert (by decide), bigSep_insert (by decide), bigSep_singleton]
    rfl
  have hts : (bigSep Finset.univ fun p => bigSep (dut true (.snd p)) fun d => (dutyTok ER (cell (nb d c) (.snd p)) 0 d : sProp 𝕄))
      = each (fun p => dutyTok ER (cell c (.snd p)) 0 3) order := by
    rw [pieces_order]; exact congrArg (fun Φ => each Φ order) (funext fun p => bigSep_singleton)
  have htr : (bigSep Finset.univ fun p => bigSep (dut true (.rcv p)) fun d => (dutyTok ER (cell (nb d c) (.rcv p)) 0 d : sProp 𝕄))
      = each (fun p => dutyTok ER (cell (nb (dir p) c) (.rcv p)) 0 (dir p)) order := by
    rw [pieces_order]; exact congrArg (fun Φ => each Φ order) (funext fun p => bigSep_singleton)
  have hcr : each (fun p => (cred (tallyAt (cell c (.rcv p)) () (dueAmt true (.rcv p))) : sProp 𝕄)) order ⊢ each (fun p => cred (tallyAt (cell c (.rcv p)) () (cr p))) order := Entails.rfl
  unfold hold kit due
  rw [cells_split (fun κ => atPos ER (cell c κ) 0 ∅ 0), cells_split (fun κ => bigSep (dut true κ) fun d => (dutyTok ER (cell (nb d c) κ) 0 d : sProp 𝕄)),
    cells_split (fun κ => cred (tallyAt (cell c κ) () (dueAmt true κ))), htb, hts, htr, pieces_order, pieces_order, pieces_order (fun p => cred (tallyAt (cell c (.rcv p)) () (dueAmt true (.rcv p))))]
  iintro ⟨HR, ⟨Hab, Hac, Has, Har⟩, ⟨Htb, -, Hts, Htr⟩, ⟨Hcb, -, -, Hcr⟩, HL⟩
  isplitl [HR]; · iexact HR
  isplitl [HL]; · iexact HL
  isplitl [Hab Hcb Htb]
  · isplitl [Hab]; · iexact Hab
    isplitl [Hcb]; · iexact Hcb
    iexact Htb
  isplitl [Has Hts Htr]
  · iapply (each_sep (fun p => (atPos ER (cell c (.snd p)) 0 ∅ 0 : sProp 𝕄)) (fun p => iprop(dutyTok ER (cell c (.snd p)) 0 3 ∗ dutyTok ER (cell (nb (dir p) c) (.rcv p)) 0 (dir p))) order)
    isplitl [Has]; · iexact Has
    iapply (each_sep (fun p => (dutyTok ER (cell c (.snd p)) 0 3 : sProp 𝕄)) (fun p => dutyTok ER (cell (nb (dir p) c) (.rcv p)) 0 (dir p)) order)
    isplitl [Hts] <;> iassumption
  isplitl [Har Hcr]
  · iapply (each_sep (fun p => (atPos ER (cell c (.rcv p)) 0 ∅ 0 : sProp 𝕄)) (fun p => cred (tallyAt (cell c (.rcv p)) () (cr p))) order)
    isplitl [Har]; · iexact Har
    iapply hcr; iexact Hcr
  iexact Hac

omit [FloatOps F] in
/-- The pieces of the block that are not sent. -/
abbrev restP : List Piece := [.y 0, .z 0, .y 1, .z 1, .y 2, .z 2, .y 3, .z 3]

omit [FloatOps F] in
/-- The block is the pieces sent and the others. -/
theorem block_split : xPts c Finset.univ fullShare (xstg m c)
    ⊢ iprop(each (sndPay m c) ownP ∗ each (fun p => xPts c (part c p) fullShare (xstg m c)) restP) := by
  rw [xPts_pieces, pieces_order]
  unfold order ownP restP
  simp only [each_cons]
  unfold each sndPay
  iintro ⟨Ha0, Ha1, Ha2, Ha3, Hb, Hy0, Hz0, Hy1, Hz1, Hy2, Hz2, Hy3, Hz3, -⟩
  isplitl [Ha0 Ha1 Ha2 Ha3 Hb]
  · isplitl [Ha0]; · iexact Ha0
    isplitl [Ha1]; · iexact Ha1
    isplitl [Ha2]; · iexact Ha2
    isplitl [Ha3]; · iexact Ha3
    isplitl [Hb]; · iexact Hb
    iempintro
  isplitl [Hy0]; · iexact Hy0
  isplitl [Hz0]; · iexact Hz0
  isplitl [Hy1]; · iexact Hy1
  isplitl [Hz1]; · iexact Hz1
  isplitl [Hy2]; · iexact Hy2
  isplitl [Hz2]; · iexact Hz2
  isplitl [Hy3]; · iexact Hy3
  isplitl [Hz3]; · iexact Hz3
  iempintro

omit [FloatOps F] in
/-- Two halves of a forwarded chunk are the chunk. -/
theorem halves (i : Fin 4) : iprop(sndPay m c (.y i) ∗ sndPay m c (.z i)) ⊢ oPts c (part c (.a i)) fullShare (outAt m c) := by
  unfold sndPay oPts
  exact (pointsTo_share (Ix := Unit) (Name := ℕ) (U := UU) (Lvl := ℕ) (ℓ := (c : Thread nD τ).loc cc0_stg2_0) (I := part c (.a i)) (f := outAt m c)
    (PosShare.mem_left_op_right fullShare)).2

omit [FloatOps F] in
/-- Everything sent and arrived, the block is whole again and the result buffer holds the result. -/
theorem whole_again :
    iprop(each (sndPay m c) order ∗ each (kept m c) order ∗ each (fun p => xPts c (part c p) fullShare (xstg m c)) restP)
      ⊢ iprop(xPts c Finset.univ fullShare (xstg m c) ∗ oPts c Finset.univ fullShare (outAt m c)) := by
  rw [xPts_pieces, oPts_pieces, pieces_order, pieces_order]
  have hb : ∀ p, dir p = 0 → (sndPay m c p ⊢ xPts c (part c p) fullShare (xstg m c)) := fun p hp => by
    cases p with
    | a i => exact Entails.rfl
    | b => exact Entails.rfl
    | y i => exact absurd hp (by show ¬ (1 : Fin 4) = 0; decide)
    | z i => exact absurd hp (by show ¬ (2 : Fin 4) = 0; decide)
  unfold order restP
  simp only [each_cons]
  dsimp only [kept]
  iintro ⟨⟨Sa0, Sa1, Sa2, Sa3, Sb, Sy0, Sz0, Sy1, Sz1, Sy2, Sz2, Sy3, Sz3, -⟩, ⟨Ka0, Ka1, Ka2, Ka3, Kb, Ky0, Kz0, Ky1, Kz1, Ky2, Kz2, Ky3, Kz3, -⟩, ⟨Xy0, Xz0, Xy1, Xz1, Xy2, Xz2, Xy3, Xz3, -⟩⟩
  ihave O0 := (halves m c 0) $$ [Sy0 Sz0]
  · isplitl [Sy0] <;> iassumption
  ihave O1 := (halves m c 1) $$ [Sy1 Sz1]
  · isplitl [Sy1] <;> iassumption
  ihave O2 := (halves m c 2) $$ [Sy2 Sz2]
  · isplitl [Sy2] <;> iassumption
  ihave O3 := (halves m c 3) $$ [Sy3 Sz3]
  · isplitl [Sy3] <;> iassumption
  isplitl [Sa0 Sa1 Sa2 Sa3 Sb Xy0 Xz0 Xy1 Xz1 Xy2 Xz2 Xy3 Xz3]
  · isplitl [Sa0]; · iapply (hb _ rfl); iexact Sa0
    isplitl [Sa1]; · iapply (hb _ rfl); iexact Sa1
    isplitl [Sa2]; · iapply (hb _ rfl); iexact Sa2
    isplitl [Sa3]; · iapply (hb _ rfl); iexact Sa3
    isplitl [Sb]; · iapply (hb _ rfl); iexact Sb
    isplitl [Xy0]; · iexact Xy0
    isplitl [Xz0]; · iexact Xz0
    isplitl [Xy1]; · iexact Xy1
    isplitl [Xz1]; · iexact Xz1
    isplitl [Xy2]; · iexact Xy2
    isplitl [Xz2]; · iexact Xz2
    isplitl [Xy3]; · iexact Xy3
    isplitl [Xz3]; · iexact Xz3
    unfold each; iempintro
  isplitl [O0]; · iexact O0
  isplitl [O1]; · iexact O1
  isplitl [O2]; · iexact O2
  isplitl [O3]; · iexact O3
  isplitl [Kb]; · iexact Kb
  isplitl [Ky0]; · iexact Ky0
  isplitl [Kz0]; · iexact Kz0
  isplitl [Ky1]; · iexact Ky1
  isplitl [Kz1]; · iexact Kz1
  isplitl [Ky2]; · iexact Ky2
  isplitl [Kz2]; · iexact Kz2
  isplitl [Ky3]; · iexact Ky3
  isplitl [Kz3]; · iexact Kz3
  unfold each; iempintro

/-- The end of the exchange. -/
theorem leave (l : List Piece) (hn : l.Nodup) (hu : l.toFinset = Finset.univ) :
    iprop(st m K c [] [] [] [] l l ∗ each (fun p => xPts c (part c p) fullShare (xstg m c)) restP ∗ semVal (cell c .bar) 0 ∗ semVal (cell c .cp) 0) ⊢ done m true c := by
  have hs : each (sent m c) l ⊢ iprop((bigSep Finset.univ fun p => semVal (cell c (.snd p)) 0) ∗ each (sndPay m c) order) := by
    rw [each_univ _ l hn hu, ← pieces_order]; unfold sent; rw [bigSep_sep']
  have hh : each (here m c) l ⊢ iprop((bigSep Finset.univ fun p => semVal (cell c (.rcv p)) 0) ∗ each (kept m c) order) := by
    rw [each_univ _ l hn hu, ← pieces_order]; unfold here; rw [bigSep_sep']
  unfold st done zeros
  rw [cells_split (fun κ => semVal (cell c κ) 0)]
  iintro ⟨⟨-, -, HO, -, -, -, -, Hs, Hh⟩, Hx, Hb, Hc⟩
  ihave Hs := hs $$ Hs
  icases Hs with ⟨Hzs, Hs⟩
  ihave Hh := hh $$ Hh
  icases Hh with ⟨Hzr, Hh⟩
  ihave Hw := (whole_again m c) $$ [Hs Hh Hx]
  · isplitl [Hs]; · iexact Hs
    isplitl [Hh] <;> iassumption
  icases Hw with ⟨Hx, Ho⟩
  isplitl [Hb Hc Hzs Hzr]
  · isplitl [Hb]; · iexact Hb
    isplitl [Hc]; · iexact Hc
    isplitl [Hzs] <;> iassumption
  isplitl [HO]; · iexact HO
  isplitl [Hx]; · iexact Hx
  iexact Ho

end Exchange

omit [FloatOps F] in
/-- A cell nobody pays has no duty in any round. -/
theorem duties_none (b : Bool) (c : Dev nD) (κ : Cell) (h : dut b κ = ∅) : ∀ r, 0 ≤ r → (sched (F := F) m b).duties (cell c κ) r = ∅ := fun r _ => by
  rcases Nat.eq_zero_or_pos r with rfl | hr
  · rw [duties_at, h]
  · exact duties_later m b _ r hr

omit [FloatOps F] in
/-- Such a cell closes at once. -/
theorem close_idle (b : Bool) (K : Dev nD × Cell → ℕ) (c : Dev nD) (κ : Cell) (h : dut b κ = ∅) :
    iprop(records m b K ∗ atPos ER (cell c κ) 0 ∅ 0) ⊢ |={Set.univ}=> semVal (cell c κ) 0 :=
  (BIClass.sep_mono (inv_at m b K c κ) Entails.rfl).trans
    (Rounds.cell_close ER (sched m b) (Set.mem_univ (K (c, κ))) (fun h => h) (R := 0) (duties_none m b c κ h))

end Swap

end
-- ==== Proof.Whole.lean ====
/-
# The whole body on one device

The device reads its word of `pi`; if it names the other x index the thirteen parts of the exchange run, else the local copy
does. Each way from what the launch hands the device to what it hands back.
-/
module

public import proofs.«01_k».proof.Proof.Device

@[expose] public section

noncomputable section

namespace Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The staged `pi`, as the kernel names it, -/
abbrev pM : Memref sig .tc .smem S2 .i32 := Memref.whole cc0_stg0_0
/-- the rectangle of the one word that device `c` reads of it, -/
abbrev wordR (c : Dev nD) : Rect S2 := Rect.unit (s := S2) (k0_off1 c) S1.size (k0_off1_inb c)
/-- and that word. -/
abbrev wordOf (c : Dev nD) (f : (cc0_stg0_0 : Ref sig .tc).ty.Contents (Elt F)) : BitVec 32 :=
  (pM.access (wordR c)).read (Elt F) f (Shape.Idx.first (numel1_S1.symm ▸ Nat.one_pos))

/-- The staged `pi`. -/
def pPts (c : Dev nD) (f : (cc0_stg0_0 : Ref sig .tc).ty.Contents (Elt F)) : sProp 𝕄 := ((c : Thread nD τ).loc cc0_stg0_0) ↦{fullShare} f

/-- The condition of the local copy, as the body computes it. -/
abbrev copyBit (c : Dev nD) (w : BitVec 32) : BitVec 1 :=
  Scalar.cmpi .ne (Scalar.extui (Scalar.xori (Scalar.cmpi .ne w (Scalar.remsi (Scalar.divsi (Dev.word c) 4#32) 2#32)) 1#1) : BitVec 32) 0#32

theorem copy_swap (c : Dev nD) : ¬ copyBit c (tgt true c) = 1#1 := by revert c; decide +kernel
theorem copy_keep (c : Dev nD) : copyBit c (tgt false c) = 1#1 := by revert c; decide +kernel

/-- What the exchange starts from. -/
theorem begin_st (K : Dev nD × Cell → ℕ) (c : Dev nD) :
    iprop(records m true K ∗ levAts L lv ∗ (∃ W, owes (c : Thread nD τ) (owe c (order.map fun p => (Cell.rcv p, dir p))) W)
        ∗ each (kit (F := F) c) order ∗ each (room (F := F) c) order ∗ each (sndPay m c) ownP ∗ each (due (F := F) c) order) ⊢ st m K c order ownP order [] [] [] := by
  unfold st
  iintro ⟨HR, HL, HO, Hkit, Hroom, Hs, Hd⟩
  isplitl [HR]; · iexact HR
  isplitl [HL]; · iexact HL
  isplitl [HO]; · iexact HO
  isplitl [Hkit Hroom]
  · iapply (each_sep (kit (F := F) c) (room (F := F) c) order)
    isplitl [Hkit] <;> iassumption
  isplitl [Hs]; · iexact Hs
  isplitl [Hd]; · iexact Hd
  unfold each
  isplitr; · iempintro
  isplitr <;> iempintro

section Swapped

variable (K : Dev nD × Cell → ℕ) (c : Dev nD)

/-- The exchange. -/
theorem body_swap (f : (cc0_stg2_0 : Ref sig .tc).ty.Contents (Elt F)) (g : (cc0_stg0_0 : Ref sig .tc).ty.Contents (Elt F)) (hg : wordOf c g = tgt true c) (W : Waits sig Unit)
    (Q : PUnit → sProp 𝕄) :
    iprop((hold m true K c ∗ owes (c : Thread nD τ) (owe c (plan true)) W ∗ pPts c g ∗ xPts c Finset.univ fullShare (xstg m c) ∗ oPts c Finset.univ fullShare f)
        ∗ ((done m true c ∗ pPts c g) -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8) Q := by
  rw [cc0_body_eq_skeleton]; unfold cc0_body_skel
  simp only [smemLoad, smemLoadElt, Prog.lift, Prog.bind_op, Prog.bind_ret, wp_deviceId]
  iintro ⟨⟨Hh, HO, Hp, Hx, Ho⟩, Hk⟩
  unfold pPts
  iapply (wp_load_rect 𝒱₀ (c : Thread nD τ) none Set.univ (m := pM) (r := wordR c) (Finset.subset_univ _)) $$ Hp; iintro Hp
  replace hg : (pM.access (wordR c)).read (Elt F) g (Shape.Idx.first (numel1_S1.symm ▸ Nat.one_pos)) = tgt true c := hg
  generalize (pM.access (wordR c)).read (Elt F) g (Shape.Idx.first (numel1_S1.symm ▸ Nat.one_pos)) = w at hg ⊢
  subst hg
  simp only [wp_assume_of _ _ _ _ (d := k0_chk1.dec _ _) (chk true c)]
  rw [dif_pos (cond_swap c), if_neg (copy_swap c)]
  simp only [wp_bind]
  ihave He := (enter m K c) $$ Hh
  icases He with ⟨#HR, #HL, ⟨Hab, Hcb, Ht0, Ht1, Ht2⟩, Hkit, Hdue, Hcp⟩
  ihave Hx := (block_split m c) $$ Hx
  icases Hx with ⟨Hs, Hrest⟩
  iapply (part1 m K c _ _ _ _ _ _ _ _ f W _)
  isplitl [HO Hab Hcb Ht0 Ht1 Ht2 Ho]
  · isplitr; · iexact HR
    isplitr; · iexact HL
    isplitl [HO]; · iexact HO
    isplitl [Hab]; · iexact Hab
    isplitl [Hcb]; · iexact Hcb
    isplitl [Ht0]; · iexact Ht0
    isplitl [Ht1]; · iexact Ht1
    isplitl [Ht2]; · iexact Ht2
    iexact Ho
  iintro %r1 ⟨HO, Hzb, Hroom⟩
  ihave H := (begin_st m K c) $$ [HO Hkit Hroom Hs Hdue]
  · isplitr; · iexact HR
    isplitr; · iexact HL
    isplitl [HO]; · iexact HO
    isplitl [Hkit]; · iexact Hkit
    isplitl [Hroom]; · iexact Hroom
    isplitl [Hs]; · iexact Hs
    iexact Hdue
  iapply (part2 m K c _ _ _ _ _ _); isplitl [H]; · iexact H
  iintro %r2 H
  iapply (part3 m K c _ _ _ _ _ _ _); isplitl [H]; · iexact H
  iintro %r3 H
  iapply (part4 m K c _ _ _ _ _ _ _ _); isplitl [H]; · iexact H
  iintro %r4 H
  iapply (part5 m K c _ _ _ _ _ _ _); isplitl [H]; · iexact H
  iintro %r5 H
  iapply (part6 m K c _ _ _ _ _ _); isplitl [H]; · iexact H
  iintro %r6 H
  iapply (part7 m K c _ _ _ _ _ _ _); isplitl [H]; · iexact H
  iintro %r7 H
  iapply (part8 m K c _ _ _ _ _ _); isplitl [H]; · iexact H
  iintro %r8 H
  iapply (part9 m K c _ _ _ _ _ _ _ _); isplitl [H]; · iexact H
  iintro %r9 H
  iapply (part10 m K c _ _ _ _ _ _ _ _); isplitl [H]; · iexact H
  iintro %r10 H
  iapply (part11 m K c _ _ _ _ _ _ _); isplitl [H]; · iexact H
  iintro %r11 H
  iapply (part12 m K c  _); isplitl [H]; · iexact H
  iintro %r12 H
  iapply (part13 m K c  _); isplitl [H]; · iexact H
  iintro %r13 H
  iapply (wait_snd m K (.z 3) rfl (chunkR_credit c _ _ _) _ _ _ _ _) $$ H; iintro H
  imod (close_idle m true K c .cp rfl) $$ [Hcp] with Hzc
  · isplitr; · iexact HR
    iexact Hcp
  simp only [Prog.pure_eq_ret]
  rw [wp_ret]; imodintro
  iapply Hk
  isplitr [Hp]
  · iapply (leave m K c [.z 3, .y 3, .z 2, .y 2, .z 1, .y 1, .z 0, .y 0, .b, .a 3, .a 2, .a 1, .a 0] (by decide) (by decide))
    isplitl [H]; · iexact H
    isplitl [Hrest]; · iexact Hrest
    isplitl [Hzb]; · iexact Hzb
    iexact Hzc
  iexact Hp

end Swapped

/-! ## The local copy -/

section Kept

variable (K : Dev nD × Cell → ℕ) (c : Dev nD)

/-- The whole result buffer counts as the schedule says. -/
theorem whole_credit : (oM : Memref sig .tc .vmem S1x512x512 .f32).view.dmaCredit = NC := rfl

omit [FloatOps F] in
/-- Everything but the copy's cell is idle: all those counters close, the copy's is at hand. -/
theorem close_others : iprop(records m false K ∗ (bigSep Finset.univ fun κ => atPos ER (cell c κ) 0 ∅ 0))
    ⊢ |={Set.univ}=> iprop(atPos ER (cell c .cp) 0 ∅ 0 ∗ bigSep (Finset.univ.erase Cell.cp) fun κ => semVal (cell c κ) 0) := by
  have hd : ∀ κ ∈ Finset.univ.erase Cell.cp, dut false κ = ∅ := fun κ hκ => by
    cases κ with
    | cp => exact absurd rfl (Finset.ne_of_mem_erase hκ)
    | bar => rfl
    | snd p => rfl
    | rcv p => rfl
  rw [bigSep_univ_at _ Cell.cp]
  iintro ⟨#HR, Hc, Ho⟩
  imod ((bigSep_with_persistent (R := records m false K) fun κ hκ => close_idle m false K c κ (hd κ hκ)).trans (bigSep_fupd _ _)) $$ [Ho] with Hz
  · isplitr; · iexact HR
    iexact Ho
  imodintro
  isplitl [Hc] <;> iassumption

/-- The device copies its own block. -/
theorem body_keep (f : (cc0_stg2_0 : Ref sig .tc).ty.Contents (Elt F)) (g : (cc0_stg0_0 : Ref sig .tc).ty.Contents (Elt F)) (hg : wordOf c g = tgt false c) (W : Waits sig Unit)
    (Q : PUnit → sProp 𝕄) :
    iprop((hold m false K c ∗ owes (c : Thread nD τ) (owe c (plan false)) W ∗ pPts c g ∗ xPts c Finset.univ fullShare (xstg m c) ∗ oPts c Finset.univ fullShare f)
        ∗ ((done m false c ∗ pPts c g) -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8) Q := by
  have htok : (bigSep Finset.univ fun κ => bigSep (dut false κ) fun d => (dutyTok ER (cell (nb d c) κ) 0 d : sProp 𝕄)) ⊢ dutyTok ER (cell c .cp) 0 3 :=
    (bigSep_elim (Finset.mem_univ Cell.cp)).trans (Entails.of_eq bigSep_singleton)
  have hpay : iprop(oPts c Finset.univ fullShare (xstg m c) ∗ xPts c Finset.univ fullShare (xstg m c)) ⊢ (sched m false).payload ((c : Thread nD τ), .dma cpS) 0 3 :=
    Entails.of_eq (payload_at m false c .cp 3).symm
  have hrest : bigSep ((sched (F := F) m false).duties ((c : Thread nD τ), .dma cpS) 0 \ ∅) (fun d => (sched (F := F) m false).payload ((c : Thread nD τ), .dma cpS) 0 d)
      = iprop(oPts c Finset.univ fullShare (xstg m c) ∗ xPts c Finset.univ fullShare (xstg m c)) :=
    (rest_at m false c .cp).trans bigSep_singleton
  have hx : (xM.view.loc (c : Thread nD τ) ↦[xM.view.set]{fullShare} xstg m c : sProp 𝕄) = xPts c Finset.univ fullShare (xstg m c) :=
    congrArg (fun S => xPts c S fullShare (xstg m c)) (View.set_whole cc0_stg1_0)
  have ho : ∀ h : (cc0_stg2_0 : Ref sig .tc).ty.Contents (Elt F), (oM.view.loc (c : Thread nD τ) ↦[oM.view.set]{fullShare} h : sProp 𝕄) = oPts c Finset.univ fullShare h := fun h =>
    congrArg (fun S => oPts c S fullShare h) (View.set_whole cc0_stg2_0)
  have hw : oM.view.write (Elt F) f (xM.view.read (Elt F) (xstg m c)) Finset.univ = xstg m c := View.write_whole_univ cc0_stg2_0 f (xstg m c)
  rw [cc0_body_eq_skeleton]; unfold cc0_body_skel
  simp only [smemLoad, smemLoadElt, Prog.lift, Prog.bind_op, Prog.bind_ret, wp_deviceId]
  unfold hold
  iintro ⟨⟨⟨#HR, Hat, Ht, -, #HL⟩, HO, Hp, Hx, Ho⟩, Hk⟩
  unfold pPts
  iapply (wp_load_rect 𝒱₀ (c : Thread nD τ) none Set.univ (m := pM) (r := wordR c) (Finset.subset_univ _)) $$ Hp; iintro Hp
  replace hg : (pM.access (wordR c)).read (Elt F) g (Shape.Idx.first (numel1_S1.symm ▸ Nat.one_pos)) = tgt false c := hg
  generalize (pM.access (wordR c)).read (Elt F) g (Shape.Idx.first (numel1_S1.symm ▸ Nat.one_pos)) = w at hg ⊢
  subst hg
  simp only [wp_assume_of _ _ _ _ (d := k0_chk1.dec _ _) (chk false c)]
  rw [dif_neg (cond_keep c), if_pos (copy_keep c)]
  imod (close_others m K c) $$ [Hat] with ⟨Hat, Hz⟩
  · isplitr; · iexact HR
    iexact Hat
  ihave Ht := htok $$ Ht
  ihave Hx := (Entails.of_eq hx.symm) $$ Hx
  ihave Ho := (Entails.of_eq (ho f).symm) $$ Ho
  iapply (Rounds.wp_copy_pointsTo 𝒱₀ ER (sched m false) (c : Thread nD τ) none (src := xM) (dst := oM) (sem := .dma cpS) (κ := K (c, .cp)) (r := 0) (d := 3) (q := fullShare) (fs := xstg m c) (fd := f)
    (by refine (duties_at m false c .cp).symm ▸ ?_; exact Finset.mem_singleton_self _) () NC rfl (amount_at m false c .cp 3)
    (by rw [hx, ho, hw]; exact hpay)) $$ [Hx Ho Ht]
  · isplitr; · iapply (inv_at m false K c .cp); iexact HR
    isplitl [Hx]; · iexact Hx
    isplitl [Ho]; · iexact Ho
    isplitl [Ht]; · iexact Ht
    iapply (reached_at m false K c .cp); iexact HR
  iintro Hc
  iapply (Rounds.wp_wait_rest_token 𝒱₀ ER (sched m false) (c : Thread nD τ) none (κ := K (c, .cp)) (sm := .dma cpS) (k' := NC)
    (fun Φ => wpE_waitDma2_eq 𝒱₀ (c : Thread nD τ) none Set.univ Φ) (Set.mem_univ _) () (O := 0) (W := W) (R := 0) (m := 0) (T := ∅)
    ((Nat.zero_add _).trans ((Nat.one_mul _).symm.trans (expect_at m false c .cp).symm))) $$ [Hc HO Hat]
  · isplitr; · iapply (inv_at m false K c .cp); iexact HR
    isplitl [Hc]; · iexact Hc
    isplitl [HO]; · iexact HO
    isplitr; · rw [MayWait_zero]; iempintro
    iexact Hat
  iintro ⟨HO, Hat, -, Hpay⟩
  ihave Hpay := (Entails.of_eq hrest) $$ Hpay
  icases Hpay with ⟨Ho, Hx⟩
  imod (Rounds.cell_close ER (sched m false) (Set.mem_univ (K (c, .cp))) (fun h => h) (R := 0 + 1) (duties_later m false _)) $$ [Hat] with Hzc
  · isplitr; · iapply (inv_at m false K c .cp); iexact HR
    iexact Hat
  simp only [Prog.pure_eq_ret]
  rw [wp_ret]; imodintro
  iapply Hk
  isplitr [Hp]
  · unfold done zeros
    rw [bigSep_univ_at _ Cell.cp]
    isplitl [Hzc Hz]
    · isplitl [Hzc] <;> iassumption
    isplitl [HO]; · iexists _; iexact HO
    isplitl [Hx]; · iexact Hx
    iexact Ho
  iexact Hp

end Kept

/-- The body in either of the two ways. -/
theorem body_run (b : Bool) (K : Dev nD × Cell → ℕ) (c : Dev nD) (f : (cc0_stg2_0 : Ref sig .tc).ty.Contents (Elt F)) (g : (cc0_stg0_0 : Ref sig .tc).ty.Contents (Elt F))
    (hg : wordOf c g = tgt b c) (W : Waits sig Unit) (Q : PUnit → sProp 𝕄) :
    iprop((hold m b K c ∗ owes (c : Thread nD τ) (owe c (plan b)) W ∗ pPts c g ∗ xPts c Finset.univ fullShare (xstg m c) ∗ oPts c Finset.univ fullShare f)
        ∗ ((done m b c ∗ pPts c g) -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8) Q := by
  cases b
  · exact body_keep m K c f g hg W Q
  · exact body_swap m K c f g hg W Q

end Swap

end
-- ==== Proof.Launch.lean ====
/-
# The launch and the run

The run of @main on the mesh of eight devices, over any float values: given that on every device `pi` names the x index that
`tgt b` says, every fair execution ends with each device's result array holding `res b`, the arguments as they were, and
every counter at zero.
-/
module

public import proofs.«01_k».proof.Proof.Whole
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (b : Bool)

/-- The state at launch: the given memory, every counter at zero. -/
def s₀ : MemSt nD τ sig (Elt F) := ⟨m, fun _ => 0, ρ⟩

/-- `pi`, staged. -/
def pstg (c : Dev nD) : (cc0_stg0_0 : Ref sig .tc).ty.Contents (Elt F) :=
  (win0_0.blk t0_0).view.read (Elt F) (m ((c : Thread nD τ).loc main_arg1))

/-! ## The launch's data -/

/-- The kernel's own semaphores: all but the barrier's. -/
abbrev osem (k : {κ : Cell // κ ≠ .bar}) : SemLoc sig := sem k.1

theorem ownSemFacts : Pipeline.OwnSemFacts cfg0.spec osem :=
  ⟨by decide +kernel, fun k k' h => Subtype.ext (sem_injective h), by decide +kernel⟩

/-- The windows' contents before and after, and what the body starts and ends with. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pstg m c
    | ⟨1, _⟩ => xstg m c
    | ⟨2, _⟩ => res m b c
  Φ t := match t with
    | ⟨0, _⟩ => iprop(∃ K, hold m b K c)
    | ⟨_ + 1, _⟩ => zeros c
  q _ := fullShare
  owed t := match t with
    | ⟨0, _⟩ => owe c (plan b)
    | ⟨_ + 1, _⟩ => 0

omit [FloatOps F] in
theorem owns_buf (c : Dev nD) (r : Ref sig .tc) (X : r.ty.Contents (Elt F)) :
    (owns (Ix := Unit) (Name := ℕ) (U := UU) (Lvl := ℕ) (c : Thread nD τ) (Memref.whole r) fullShare X : sProp 𝕄)
      = iprop(∃ f : Buf (Elt F) (((c : Dev nD) : Thread nD τ).loc r), ⌜f = X⌝ ∗ (((c : Thread nD τ).loc r) ↦{fullShare} f)) := by
  unfold owns; simp only [Memref.view_whole, View.read_whole, View.set_whole]

/-- A staging buffer at given contents. -/
abbrev stgP (c : Dev nD) (X : (cc0_stg0_0 : Ref sig .tc).ty.Contents (Elt F)) : sProp 𝕄 := iprop(∃ f, ⌜f = X⌝ ∗ pPts c f)
abbrev stgX (c : Dev nD) (X : (cc0_stg1_0 : Ref sig .tc).ty.Contents (Elt F)) : sProp 𝕄 := iprop(∃ f, ⌜f = X⌝ ∗ xPts c Finset.univ fullShare f)
abbrev stgO (c : Dev nD) (X : (cc0_stg2_0 : Ref sig .tc).ty.Contents (Elt F)) : sProp 𝕄 := iprop(∃ f, ⌜f = X⌝ ∗ oPts c Finset.univ fullShare f)

def bodyPre (c : Dev nD) : sProp 𝕄 :=
  iprop((∃ K, hold m b K c) ∗ (dats m ρ b 0 c).owesAt () t0_0.castSucc
    ∗ (∃ d, stgP c ((dats m ρ b 0 c).before (0 : Fin 3) t0_0 d))
    ∗ (∃ d, stgX c ((dats m ρ b 0 c).before (1 : Fin 3) t0_0 d))
    ∗ (∃ d, stgO c ((dats m ρ b 0 c).before (2 : Fin 3) t0_0 d)))

def bodyPost (c : Dev nD) : sProp 𝕄 :=
  iprop(zeros c ∗ (dats m ρ b 0 c).owesAt () t0_0.succ ∗ stgP c (pstg m c) ∗ stgX c (xstg m c) ∗ stgO c (res m b c))

/-- The body as the launch wants it. -/
theorem body_obligation (hpi : ∀ c, wordOf c (pstg m c) = tgt b c) (c : Dev nD) : BodyObligation (dats (F := F) m ρ b 0 c) (defs₀ (F := F)) 𝒱₀ () Set.univ := fun t => by
  rw [fin_N0 t]
  rw [bigSep_W0, bigSep_W0]
  simp only [owns_buf]
  show bodyPre m ρ b c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
            cc0_scratch0 cc0_scratch1 cc0_scratch2 cc0_scratch3 cc0_scratch4 cc0_scratch5 cc0_scratch6 cc0_scratch7 cc0_scratch8) (fun _ => bodyPost m ρ b c)
  unfold bodyPre
  iintro ⟨⟨%K, Hh⟩, Ho, ⟨%d0, %g0, %hg0, Hp⟩, ⟨%d1, %g1, %hg1, Hx⟩, ⟨%d2, %g2, %hg2, Hout⟩⟩
  have hp : g0 = pstg m c := by rw [hg0]; unfold Dat.before; rw [if_pos (show (cfg0.win (0 : Fin 3)).fetch t0_0 = true from rfl)]; rfl
  subst hp
  have hx : g1 = xstg m c := by rw [hg1]; unfold Dat.before; rw [if_pos (show (cfg0.win (1 : Fin 3)).fetch t0_0 = true from rfl)]; rfl
  subst hx
  unfold Dat.owesAt Pipeline.owesWithin
  icases Ho with ⟨%W, %hW, HO⟩
  rw [show (dats m ρ b 0 c).owed t0_0.castSucc = owe c (plan b) from rfl]
  iapply (body_run m b K c g2 (pstg m c) (hpi c) W (fun _ => bodyPost m ρ b c))
  isplitl
  · isplitl [Hh]; · iexact Hh
    isplitl [HO]; · iexact HO
    isplitl [Hp]; · iexact Hp
    isplitl [Hx]; · iexact Hx
    iexact Hout
  unfold done bodyPost Dat.owesAt Pipeline.owesWithin
  rw [show (dats m ρ b 0 c).owed t0_0.succ = 0 from rfl]
  iintro ⟨⟨Hz, ⟨%W', HO⟩, Hx, Hout⟩, Hp⟩
  isplitl [Hz]; · iexact Hz
  isplitl [HO]
  · iexists W'
    isplitr; · ipureintro; exact fun _ _ => Or.inl trivial
    iexact HO
  isplitl [Hp]
  · iexists _; isplitr; · (ipureintro; rfl)
    iexact Hp
  isplitl [Hx]
  · iexists _; isplitr; · (ipureintro; rfl)
    iexact Hx
  iexists _; isplitr; · (ipureintro; rfl)
  iexact Hout

/-! ## The ghost state at launch -/

def cellsAll : Finset (GSem nD τ sig) :=
  (Finset.univ : Finset (Dev nD × Cell)).map ⟨fun ck => cell ck.1 ck.2, fun a a' h => Prod.ext (cell_inj.mp h).1 (cell_inj.mp h).2⟩

/-- The tokens of every payment. -/
def toksAll : Finset (GSem nD τ sig × ℕ × Fin 4) :=
  ((Finset.univ : Finset (Dev nD × Cell × Fin 4)).filter fun x => x.2.2 ∈ dut b x.2.1).map
    ⟨fun x => (cell x.1 x.2.1, 0, x.2.2), fun a a' h => by
      have h1 := cell_inj.mp (congrArg Prod.fst h)
      have h2 : a.2.2 = a'.2.2 := congrArg (fun x : GSem nD τ sig × ℕ × Fin 4 => x.2.2) h
      exact Prod.ext h1.1 (Prod.ext h1.2 h2)⟩

def u₀ : UU := (initOf (Pipeline.cells cfgs cellOf_inj) (Pipeline.launchToks cfgs cellOf_inj), initOf cellsAll (toksAll b))

omit [FloatOps F] in
theorem dut_ite (κ : Cell) (Φ : Fin 4 → sProp 𝕄) : bigSep (dut b κ) Φ = bigSep Finset.univ fun d => if d ∈ dut b κ then Φ d else iprop(emp) := by
  exact (congrArg (fun s => bigSep s Φ) (Finset.filter_univ_mem (dut b κ)).symm).trans (BI.bigSep_filter Finset.univ (fun d => d ∈ dut b κ) Φ)

/-- What the launch deals device `c`. -/
def G (c : Dev nD) : sProp 𝕄 :=
  iprop((bigSep Finset.univ fun κ => roundState ER (sched m b) (cell c κ) 0)
    ∗ (bigSep Finset.univ fun κ => iprop(atPos ER (cell c κ) 0 ∅ 0 ∗ reached ER (cell c κ) 0))
    ∗ bigSep Finset.univ fun κ => bigSep (dut b κ) fun d => dutyTok ER (cell c κ) 0 d)

/-- The tokens of the payments that device `c` makes. -/
def payToks (c : Dev nD) : sProp 𝕄 := bigSep Finset.univ fun κ => bigSep (dut b κ) fun d => dutyTok ER (cell (nb d c) κ) 0 d

/-- What is made of it. -/
def G' (c : Dev nD) : sProp 𝕄 :=
  iprop(∃ K, records m b K ∗ (bigSep Finset.univ fun κ => atPos ER (cell c κ) 0 ∅ 0) ∗ payToks b c)

omit [FloatOps F] in
theorem fund_all : BI.own (ER (initOf cellsAll (toksAll b))) ⊢ (|==> bigSep Finset.univ (G m b) : sProp 𝕄) := by
  have hX (Φ : GSem nD τ sig → sProp 𝕄) : bigSep cellsAll Φ = bigSep Finset.univ fun c : Dev nD => bigSep Finset.univ fun κ : Cell => Φ (cell c κ) := by
    unfold cellsAll; rw [bigSep_map, bigSep_univ_prod]; rfl
  have hT : bigSep (toksAll b) (fun x => (dutyTok ER x.1 x.2.1 x.2.2 : sProp 𝕄))
      = bigSep Finset.univ fun c : Dev nD => bigSep Finset.univ fun κ => bigSep (dut b κ) fun d => dutyTok ER (cell c κ) 0 d := by
    unfold toksAll
    rw [bigSep_map, BI.bigSep_filter, bigSep_univ_prod]
    refine bigSep_congr fun c _ => ?_
    rw [bigSep_univ_prod]
    exact bigSep_congr fun κ _ => (dut_ite b κ fun d => dutyTok ER (cell c κ) 0 d).symm
  iintro HX
  imod (Rounds.fund ER (sched m b) cellsAll (toksAll b)) $$ HX with ⟨Hst, Hr, Hat, Htok⟩
  imodintro
  ihave Hst := (Entails.of_eq (hX fun g => roundState ER (sched m b) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The kernel's own counters and the barrier's are the cells' counters. -/
theorem counters (c : Dev nD) :
    iprop(unscopedSems0 c ∗ Pipeline.ownSems0 (Ix := Unit) (Name := ℕ) (U := UU) (Lvl := ℕ) (Val := Elt F) (τ := τ) osem c) = (zeros c : sProp 𝕄) := by
  have h1 : (unscopedSems0 c : sProp 𝕄) = semVal (cell c .bar) 0 := by
    unfold unscopedSems0; rw [bigSep_eq_bigSepL_of_eq [SemLoc.reg barS] (by decide) (by decide)]; rfl
  have h2 : (Pipeline.ownSems0 (Ix := Unit) (Name := ℕ) (U := UU) (Lvl := ℕ) (Val := Elt F) (τ := τ) osem c : sProp 𝕄)
      = bigSep (Finset.univ.erase Cell.bar) fun κ => semVal (cell c κ) 0 := bigSep_subtype_ne Cell.bar fun κ => semVal (cell c κ) 0
  rw [h1, h2]; unfold zeros
  exact (bigSep_univ_at (Φ := fun κ => (semVal (cell c κ) 0 : sProp 𝕄)) Cell.bar).symm

omit [FloatOps F] in
/-- One device's counters go into its cells' invariants. -/
theorem core_alloc (c : Dev nD) :
    iprop(Pipeline.ownSems0 (Ix := Unit) (Name := ℕ) (U := UU) (Lvl := ℕ) (Val := Elt F) (τ := τ) osem c ∗ unscopedSems0 c ∗ G m b c)
      ⊢ |={Set.univ}=> iprop((bigSep Finset.univ fun κ => iprop(∃ n : ℕ, cellInv ER (sched m b) n (cell c κ)))
          ∗ (bigSep Finset.univ fun κ => iprop(atPos ER (cell c κ) 0 ∅ 0 ∗ reached ER (cell c κ) 0))
          ∗ bigSep Finset.univ fun κ => bigSep (dut b κ) fun d => dutyTok ER (cell c κ) 0 d) := by
  have hin : iprop(zeros c ∗ bigSep Finset.univ fun κ => roundState ER (sched m b) (cell c κ) 0)
      ⊢ (|={Set.univ}=> bigSep Finset.univ fun κ => iprop(∃ n : ℕ, cellInv ER (sched m b) n (cell c κ)) : sProp 𝕄) := by
    unfold zeros
    rw [← bigSep_sep']
    exact (bigSep_mono fun κ _ => (Rounds.body_intro ER (sched m b) (cell c κ)).trans inv_alloc).trans (bigSep_fupd _ _)
  unfold G
  iintro ⟨Hos, Hus, Hst, Hat, Htok⟩
  ihave Hv := (Entails.of_eq (counters (F := F) c)) $$ [Hos Hus]
  · isplitl [Hus] <;> iassumption
  imod hin $$ [Hv Hst] with Hinv
  · isplitl [Hv] <;> iassumption
  imodintro
  isplitl [Hinv]; · iexact Hinv
  isplitl [Hat]; · iexact Hat
  iexact Htok

/-- Going to a neighbour and back. -/
def nbE (d : Fin 4) : Dev nD ≃ Dev nD := ⟨nb d, nb d, nb_nb d, nb_nb d⟩

omit [FloatOps F] in
/-- Each token goes to the device that makes the payment. -/
theorem deal : (bigSep Finset.univ fun c : Dev nD => bigSep Finset.univ fun κ => bigSep (dut b κ) fun d => dutyTok ER (cell c κ) 0 d : sProp 𝕄)
    = bigSep Finset.univ fun c : Dev nD => payToks b c := by
  unfold payToks
  simp only [dut_ite b]
  rw [bigSep_univ_comm, bigSep_univ_comm (fun (c : Dev nD) κ => bigSep Finset.univ fun d => if d ∈ dut b κ then (dutyTok ER (cell (nb d c) κ) 0 d : sProp 𝕄) else iprop(emp))]
  refine bigSep_congr fun κ _ => ?_
  rw [bigSep_univ_comm, bigSep_univ_comm (fun (c : Dev nD) d => if d ∈ dut b κ then (dutyTok ER (cell (nb d c) κ) 0 d : sProp 𝕄) else iprop(emp))]
  exact bigSep_congr fun d _ => bigSep_univ_equiv (nbE d) _

omit [FloatOps F] in
theorem regroup :
    (bigSep Finset.univ fun c : Dev nD => iprop((bigSep Finset.univ fun κ => iprop(∃ n : ℕ, cellInv ER (sched m b) n (cell c κ)))
          ∗ (bigSep Finset.univ fun κ => iprop(atPos ER (cell c κ) 0 ∅ 0 ∗ reached ER (cell c κ) 0))
          ∗ bigSep Finset.univ fun κ => bigSep (dut b κ) fun d => dutyTok ER (cell c κ) 0 d) : sProp 𝕄)
      ⊢ bigSep Finset.univ (G' m b) := by
  rw [bigSep_sep', bigSep_sep', ← bigSep_univ_prod (fun ck : Dev nD × Cell => iprop(∃ n : ℕ, cellInv ER (sched m b) n (cell ck.1 ck.2))),
    bigSep_congr (s := Finset.univ) (fun (c : Dev nD) _ => bigSep_sep' Finset.univ (fun κ : Cell => (atPos ER (cell c κ) 0 ∅ 0 : sProp 𝕄)) (fun κ => reached ER (cell c κ) 0)),
    bigSep_sep', ← bigSep_univ_prod (fun ck : Dev nD × Cell => (reached ER (cell ck.1 ck.2) 0 : sProp 𝕄)), deal]
  iintro ⟨HI, ⟨Hat, #HR⟩, Htok⟩
  ihave HK := (BI.bigSep_exists_pi Finset.univ (fun (ck : Dev nD × Cell) (n : ℕ) => (cellInv ER (sched m b) n (cell ck.1 ck.2) : sProp 𝕄))) $$ HI
  icases HK with ⟨%K, #HI⟩
  have hg : ∀ c ∈ (Finset.univ : Finset (Dev nD)),
      iprop(records m b K ∗ ((bigSep Finset.univ fun κ : Cell => (atPos ER (cell c κ) 0 ∅ 0 : sProp 𝕄)) ∗ payToks b c)) ⊢ G' m b c := fun c _ => by
    unfold G'
    iintro H
    iexists K
    iexact H
  iapply (bigSep_with_persistent (R := records m b K) hg)
  isplitr
  · unfold records; isplitl; · iexact HI
    iexact HR
  rw [bigSep_sep']
  isplitl [Hat] <;> iassumption

omit [FloatOps F] in
/-- All devices at once. -/
theorem glob : (bigSep Finset.univ fun c => iprop(Pipeline.ownSems0 (Ix := Unit) (Name := ℕ) (U := UU) (Lvl := ℕ) (Val := Elt F) (τ := τ) osem c ∗ unscopedSems0 c ∗ G m b c) : sProp 𝕄)
    ⊢ |={Set.univ}=> bigSep Finset.univ (G' m b) :=
  ((bigSep_mono fun c _ => core_alloc m b c).trans (bigSep_fupd _ _)).trans (BI.fupd_mono (regroup m b))

/-! ## The credit at launch -/

/-- What all devices owe one cell: its amount, as often as the list has the cell. -/
theorem owed_sum (l : List (Cell × Fin 4)) (c : Dev nD) (κ : Cell) : ∑ d : Dev nD, owe d l (cell c κ) () = (l.map Prod.fst).count κ * amt κ := by
  induction l with
  | nil => simp [owe]
  | cons p l ih =>
    have h : ∀ d : Dev nD, owe d (p :: l) (cell c κ) () = owe d l (cell c κ) () + if d = nb p.2 c then (if p.1 = κ then amt κ else 0) else 0 := fun d => by
      show (owe d l + tallyAt (cell (nb p.2 d) p.1) () (amt p.1)) (cell c κ) () = _
      rw [Pi.add_apply, Finsupp.add_apply, tallyAt_apply]
      congr 1
      by_cases hd : d = nb p.2 c
      · subst hd
        rw [nb_nb, if_pos rfl]
        by_cases hk : p.1 = κ
        · subst hk; rw [if_pos ⟨rfl, rfl⟩, if_pos rfl]
        · rw [if_neg (fun h => hk (cell_inj.mp h.1).2.symm), if_neg hk]
      · rw [if_neg (fun h => hd (by rw [(cell_inj.mp h.1).1, nb_nb])), if_neg hd]
    rw [Finset.sum_congr rfl fun d _ => h d, Finset.sum_add_distrib, ih, Finset.sum_ite_eq' Finset.univ (nb p.2 c), if_pos (Finset.mem_univ _), List.map_cons, List.count_cons]
    by_cases hk : p.1 = κ
    · subst hk; simp [Nat.add_mul]
    · simp [hk]

theorem due_count (κ : Cell) : ((plan b).map Prod.fst).count κ * amt κ = dueAmt b κ := by
  cases b with
  | false => cases κ <;> simp [plan, dueAmt]
  | true =>
    have h : ∀ κ : Cell, ((plan true).map Prod.fst).count κ = match κ with | .bar => 3 | .rcv _ => 1 | _ => 0 := by decide +kernel
    rw [h]
    cases κ with
    | bar => rfl
    | snd p => exact Nat.zero_mul _
    | rcv p => exact Nat.one_mul _
    | cp => exact Nat.zero_mul _

omit [FloatOps F] in
theorem creds (c : Dev nD) :
    (Pipeline.launchCred (fun d => owe d (plan b)) c : sProp 𝕄) ⊢ bigSep Finset.univ fun κ => cred (tallyAt (cell c κ) () (dueAmt b κ)) := by
  have h : ∀ κ, tallyOn (cell c κ) (launchCredit (Pipeline.owing fun d => owe d (plan b)) 0 (cell c κ)) = (tallyAt (cell c κ) () (dueAmt b κ) : CellTallies nD τ sig Unit) := fun κ => by
    unfold tallyAt; refine congrArg _ (Finsupp.ext fun u => ?_); cases u
    rw [Pipeline.launchCredit_owing, Finsupp.single_eq_same, owed_sum, due_count]
  unfold Pipeline.launchCred
  refine (bigSep_subset (Finset.subset_univ ((Finset.univ : Finset Cell).map ⟨sem, sem_injective⟩))).trans ?_
  rw [bigSep_map]
  exact bigSep_mono fun κ _ => Entails.of_eq (congrArg cred (h κ))

/-! ## The side conditions of the launch theorem -/

omit [FloatOps F] in
theorem share_eq (c : Dev nD) (w : Fin cfg0.W) : (dats m ρ b 0 c).share w = fullShare := by unfold Dat.share; split <;> rfl

omit [FloatOps F] in
theorem start_intro (c : Dev nD) :
    iprop(Pipeline.unscopedRestP Pipeline.Prefetch.none cfg0.spec c (fun r => m ((c : Thread nD τ).loc r)) ∗ levAts L lv
        ∗ Pipeline.launchCred (fun d => owe d (plan b)) c ∗ prngReg c (ρ c) ∗ G' m b c)
      ⊢ |={Set.univ}=> iprop((∃ K, hold m b K c) ∗ emp) := by
  unfold G' hold payToks
  iintro ⟨-, Hlev, Hcr, -, ⟨%K, HR, Hat, Htok⟩⟩
  ihave Hc := (creds (F := F) b c) $$ Hcr
  imodintro
  isplitl
  · iexists K
    isplitl [HR]; · iexact HR
    isplitl [Hat]; · iexact Hat
    isplitl [Htok]; · iexact Htok
    isplitl [Hc]; · iexact Hc
    iexact Hlev
  iempintro

omit [FloatOps F] in
theorem phi0_intro (c : Dev nD) :
    iprop((∃ K, hold m b K c) ∗ Pipeline.prefHeld Pipeline.Prefetch.none c (fun _ => fullShare.right) (fun k => k.elim0) ∗ Pipeline.scopedRest cfg0.spec c)
      ⊢ (dats m ρ b 0 c).Φ 0 := by
  rw [show (dats m ρ b 0 c).Φ 0 = iprop(∃ K, hold m b K c) from rfl]
  iintro ⟨Hs, -, -⟩
  iexact Hs

omit [FloatOps F] in
theorem phi1_exit (c : Dev nD) :
    (dats m ρ b 0 c).Φ (Fin.last cfg0.N) ⊢ iprop(unscopedSems0 c ∗ Pipeline.ownSems0 osem c ∗ Pipeline.scopedRest cfg0.spec c) := by
  rw [show (dats m ρ b 0 c).Φ (Fin.last cfg0.N) = zeros c from rfl, scopedRest0_eq]
  rw [← counters c]
  iintro ⟨Hu, Ho⟩
  isplitl [Hu]; · iexact Hu
  isplitl [Ho]; · iexact Ho
  iempintro

omit [FloatOps F] in
theorem waits (c : Dev nD) : (levAts L lv : sProp 𝕄) ⊢ Pipeline.cellsWaits cfgs (dats m ρ b) () 0 c :=
  Pipeline.cellsWaits_intro cfgs (dats m ρ b) () 0 c fun w s t => by
    have hk : kind (.dma ((cfg0.win w).sem s)) = none := by revert w s; decide +kernel
    have hlv : lv ((c : Thread nD τ), .dma ((cfg0.win w).sem s)) () = 0 := by unfold lv; rw [hk]
    rcases t with ⟨_ | _, ht⟩
    · exact may_wait c _ 0 (plan b) hlv (fun p hp => by
        cases b with
        | false => exact nomatch hp
        | true => exact (by decide +kernel : ∀ p ∈ plan true, 0 < level p.1) p hp)
    · exact may_wait c _ 0 [] hlv (fun p hp => nomatch hp)

/-! ## The run -/

/-- What an array of device `c` ends with. -/
def finalA (c : Dev nD) (w : Fin cfg0.W) : Buf (Elt F) ((cfg0.win w).arr.view.loc (c : Thread nD τ)) := (dats m ρ b 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ b c w

set_option maxRecDepth 8000 in
/-- Every fair execution of @main ends with each array as computed and every counter at zero. -/
theorem run_main (hpi : ∀ c, wordOf c (pstg m c) = tgt b c) :
    θ_run defs (onTc (τ := τ) (main (F := F))) (s₀ m ρ) (fun r => QC m ρ b r ∧ r.2.sem = fun _ => 0) :=
  Pipeline.θ_run_region_owing_glob_pf (fun p => (cfgs p).toPCfg) (fun p => (cfgs p).toPCfg_adm) (dats m ρ b) () cellOf_inj (0 : Fin 1)
    winFacts0.to₀ ownSemFacts (Pipeline.PreFacts.none _) EP defs₀ 𝒱₀ m ρ main
    (hmain := fun _ => rfl)
    (hbody := body_obligation m ρ b hpi) (hne := fun w => by fin_cases w <;> exact Nat.succ_pos _) (harr := arr_whole0) (hstage := stage_whole0) (hshare := share_eq m ρ b)
    (hdistinct := winFacts0.arr_inj)
    (O₀ := fun d => owe d (plan b)) (howed₀ := fun _ => rfl) (howedN := fun _ => rfl)
    (L := L) (lv := lv) (hL := L_of_ne) (hwaits := waits m ρ b)
    (G := G m b) (G' := G' m b) (u₀ := u₀ b)
    (hu₀ := by
      unfold u₀
      iintro Hu
      ihave H := (ownU_pair _ _) $$ Hu
      icases H with ⟨HP, HX⟩
      imod (fund_all m b) $$ HX with HG
      imodintro
      isplitl [HP] <;> iassumption)
    (hglob := glob m b)
    (hA := fun _ _ => rfl) (hpf := fun _ k => k.elim0)
    (X := fun c => iprop(∃ K, hold m b K c)) (Y := fun c => unscopedSems0 c) (Z := fun _ => iprop(emp))
    (hX := start_intro m ρ b) (hin := phi0_intro m ρ b) (hout := phi1_exit m ρ b)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Swap

end
-- ==== Proof.Value.lean ====
/-
# The value

What the two permutations make of the whole array: device `c`'s block of `x[argsort(pi)]` is the block of the device across
the first mesh axis when `pi` exchanges the two positions, its own when `pi` keeps them. It is what the run leaves in the
device's result array.
-/
module

public import proofs.«01_k».proof.Defs
public import proofs.«01_k».proof.Proof.Launch
public import proofs.«01_k».proof.Proof.Gen.ReferenceIdeal.Run
public import Idealize.ShloMosaic.Lib.Pipeline.ValueKit

@[expose] public section

noncomputable section

namespace Swap

open Cert.KernelIdeal Cert.KernelIdeal.Gen

open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg) (b : Bool)

/-! ## The permutation -/

/-- The word of position `k`: the other position when `b`, else its own. -/
def word (k : Fin 2) : BitVec 32 := BitVec.ofNat 32 (if b then 1 - k.val else k.val)

/-- `pi`: the exchange when `b`, else the identity. -/
def piOf : IVec S2 32 := fun i => word b (i 0)

theorem eq_of_cmpi {u v : BitVec 32} (h : IntOp.cmpi .eq u v = 1#1) : u = v := by
  have hb : ∀ p : Bool, BitVec.ofBool p = 1#1 → p = true := by decide
  exact eq_of_beq (hb _ h)

/-- What the first precondition says of `pi`, -/
theorem pi_swapped [Cert.Pre_swapped_Kernel.Facts] (x : FVec F S1x512x512 .f32) (p : IVec S2 32)
    (h : Cert.Pre_swapped_Kernel.fn (F := F) x p = fun _ => 1#1) : p = piOf true := by
  have hw : ∀ k : Fin 2, 1#32 - BitVec.ofNat 32 k.val = word true k := by decide
  exact funext fun i => (eq_of_cmpi (congrFun h i)).trans (hw (i 0))

/-- and the second. -/
theorem pi_kept [Cert.Pre_kept_Kernel.Facts] (x : FVec F S1x512x512 .f32) (p : IVec S2 32)
    (h : Cert.Pre_kept_Kernel.fn (F := F) x p = fun _ => 1#1) : p = piOf false :=
  funext fun i => eq_of_cmpi (congrFun h i)

omit [FloatOps F] in
/-- The word that device `c` reads of it is the one the exchange needs. -/
theorem word_read (h : ∀ c : Dev nD, m ((c : Thread nD τ).loc main_arg1) = piOf b) (c : Dev nD) : wordOf c (pstg m c) = tgt b c := by
  have e : wordOf c (pstg m c) = m ((c : Thread nD τ).loc main_arg1) (fun a => ⟨c.val / 4, by have := c.isLt; simp only [nD] at this; fin_cases a; show c.val / 4 < 2; omega⟩) := by
    show m ((c : Thread nD τ).loc main_arg1) _ = _
    refine congrArg _ (funext fun a => Fin.ext ?_)
    fin_cases a; fin_cases c <;> rfl
  rw [e, h c]
  rfl

/-! ## Blocks -/

/-- Device `c`'s place among the blocks of a whole array: its x index, on the first axis. -/
abbrev place (c : Dev nD) : (k : Fin 3) → Fin (Layout.cutSize [2, 2, 2] (![[0], [], []] k)) := Layout.meshBlock [2, 2, 2] ![[0], [], []] c

/-- Its block. -/
abbrev blk {α : Type} (c : Dev nD) (v : Cert.ReferenceIdeal.S2x512x512.Idx → α) : S1x512x512.Idx → α :=
  Layout.blockN ⟨3, ![1, 512, 512]⟩ ⟨3, ![2, 512, 512]⟩ (place c) v

theorem place_congr {c d : Dev nD} (h : c.val / 4 = d.val / 4) : place c = place d := by
  have H : ∀ c d : Dev nD, c.val / 4 = d.val / 4 → ∀ k, place c k = place d k := by decide +kernel
  exact funext (H c d h)

/-- It depends on the device's x index only. -/
theorem blk_congr {α : Type} {c d : Dev nD} (h : c.val / 4 = d.val / 4) (v : Cert.ReferenceIdeal.S2x512x512.Idx → α) : blk c v = blk d v := by
  unfold blk; rw [place_congr h]

/-- The device whose block device `c` ends with. -/
def from_ (c : Dev nD) : Dev nD := if b then px c else c

omit [FloatOps F] in
theorem xstg_eq (c : Dev nD) : xstg m c = m ((c : Thread nD τ).loc main_arg0) :=
  Memref.read_access_unit_zero (Elt F) main_arg0 (funext fun a => by fin_cases a <;> rfl) (fun a => by fin_cases a <;> decide) _

omit [FloatOps F] in
/-- What the run leaves, of the blocks of a whole array. -/
theorem res_blk (v : Cert.ReferenceIdeal.S2x512x512.Idx → Elt F .f32) (h : ∀ c : Dev nD, m ((c : Thread nD τ).loc main_arg0) = blk c v) (c : Dev nD) :
    res m b c = blk (from_ b c) v := by
  have hx : ∀ c, xstg m c = blk c v := fun c => (xstg_eq m c).trans (h c)
  have h1 : ∀ c : Dev nD, (px (yn c)).val / 4 = (px c).val / 4 ∧ (px (zn c)).val / 4 = (px c).val / 4 := by decide
  cases b
  · exact hx c
  · refine funext fun x => ?_
    show outAt m c x = _
    unfold outAt
    rw [hx, hx, hx, blk_congr (h1 c).1, blk_congr (h1 c).2]
    simp only [ite_self]
    rfl

/-! ## The reference -/

/-- The row numbers that the reference gathers, before they become a column: a negative one counts from the end. -/
def rows1 (p : IVec S2 32) : IVec S2 32 :=
  select (cmpi .slt ((Host.sort2 S2 0 Cert.ReferenceIdeal.comparator_i32_i32_d0 p (iotaInDim S2 32 0)).2) (fun _ => 0#32))
    (addi ((Host.sort2 S2 0 Cert.ReferenceIdeal.comparator_i32_i32_d0 p (iotaInDim S2 32 0)).2) (fun _ => 2#32))
    ((Host.sort2 S2 0 Cert.ReferenceIdeal.comparator_i32_i32_d0 p (iotaInDim S2 32 0)).2)

def at1 (k : Fin 2) : S2.Idx := fun a => ⟨k.val, by fin_cases a; exact k.isLt⟩

/-- Sorting either permutation gives it back. -/
theorem rows1_eq : ∀ (b : Bool) (k : Fin 2), rows1 (piOf b) (at1 k) = word b k := by decide

/-- As a column. -/
def rows2 (p : IVec S2 32) : IVec Cert.ReferenceIdeal.S2x1 32 :=
  broadcastInDim Cert.ReferenceIdeal.S2x1 ![0] Cert.ReferenceIdeal.Gen.bcast_S2_S2x1_0 (rows1 p)

theorem rows2_eq : rows2 (piOf b) = fun k => word b (k 0) := by
  refine funext fun k => Eq.trans (congrArg (rows1 (piOf b)) (funext fun a => Fin.ext ?_)) (rows1_eq b (k 0))
  fin_cases a
  rfl

/-- The reference's result. -/
def refOut (x : Cert.ReferenceIdeal.S2x512x512.Idx → Elt F .f32) (p : IVec S2 32) : Cert.ReferenceIdeal.S2x512x512.Idx → Elt F .f32 :=
  Host.gather Cert.ReferenceIdeal.gather_S2x512x512_S2x1_S2x512x512_12_0_n_n_0_1_1512512 x (rows2 p)

omit [FloatOps F] in
/-- Its blocks. -/
theorem refOut_blk (x : Cert.ReferenceIdeal.S2x512x512.Idx → Elt F .f32) (c : Dev nD) : blk c (refOut x (piOf b)) = blk (from_ b c) x := by
  unfold refOut
  rw [rows2_eq]
  refine funext fun i => congrArg x (funext fun a => Fin.ext ?_)
  have hw : ∀ (b : Bool) (c : Dev nD) (i0 : Fin 1) (k : Fin 2), k.val = (place c 0).val * 1 + i0.val →
      min (word b k).toInt.toNat 1 = (place (from_ b c) 0).val * 1 + i0.val := by decide +kernel
  have h12 : ∀ c d : Dev nD, (place c 1).val = (place d 1).val ∧ (place c 2).val = (place d 2).val := by decide +kernel
  fin_cases a
  · exact hw b c (i 0) _ rfl
  · exact (Nat.zero_add ((place c 1).val * 512 + (i 1).val)).trans (congrArg (· * 512 + (i 1).val) (h12 c (from_ b c)).1)
  · exact (Nat.zero_add ((place c 2).val * 512 + (i 2).val)).trans (congrArg (· * 512 + (i 2).val) (h12 c (from_ b c)).2)

/-! ## The arrays at the end -/

theorem final_pi (c : Dev nD) : finalA m ρ b c (0 : Fin 3) = m ((c : Thread nD τ).loc main_arg1) := (dats (F := F) m ρ b 0 c).arrAt_in (0 : Fin 3) rfl _
theorem final_x (c : Dev nD) : finalA m ρ b c (1 : Fin 3) = m ((c : Thread nD τ).loc main_arg0) := (dats (F := F) m ρ b 0 c).arrAt_in (1 : Fin 3) rfl _
theorem final_out (c : Dev nD) : finalA m ρ b c (2 : Fin 3) = res m b c := by
  unfold finalA
  refine (dats m ρ b 0 c).arrAt_eq_of_after_last (2 : Fin 3) t0_0 (by decide +kernel) _ fun j => ?_
  blk_simp
  rfl

/-- Under either permutation every fair execution ends with the arguments as they were, the result array holding `res b`, and
    every counter at zero. -/
theorem run_pi (h : ∀ c : Dev nD, m ((c : Thread nD τ).loc main_arg1) = piOf b) :
    θ_run defs (onTc (τ := τ) (main (F := F))) ⟨m, fun _ => 0, ρ⟩ (fun r =>
      (∀ c : Dev nD, r.2.mem ((c : Thread nD τ).loc main_v1) = res m b c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ hr => ⟨fun c => ⟨(hr.1 c (2 : Fin 3)).trans (final_out m ρ b c), (hr.1 c (1 : Fin 3)).trans (final_x m ρ b c),
      (hr.1 c (0 : Fin 3)).trans (final_pi m ρ b c)⟩, hr.2⟩)
    (run_main m ρ b (word_read m b h))

end Swap

end
-- ==== Proof.lean ====
/-
# The claims

Each claim is read off one run of the kernel over any float values (`Swap.run_pi`) and one run of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

instance : Cert.Pre_swapped_Kernel.Facts := ⟨by decide⟩
instance : Cert.Pre_kept_Kernel.Facts := ⟨⟩
instance : Cert.Pre_swapped_ReferenceIdeal.Facts := ⟨by decide⟩
instance : Cert.Pre_kept_ReferenceIdeal.Facts := ⟨⟩

/-! ## The kernel runs, leaves its arguments unchanged and its counters at zero -/

/-- The kernel over the bits has the text of the kernel over the reals: the same table of bodies, -/
theorem table_eq : Cert.Kernel.defs₀ (F := Bits) = Cert.KernelIdeal.defs₀ (F := Bits) :=
  congrArg Defs.onTc (funext fun l => funext fun a => by
    match l, a with
    | ⟨0, _⟩, (t, s) => rfl
    | ⟨_ + 1, h⟩, _ => exact absurd h (Nat.not_lt.2 (Nat.le_add_left _ _)))

theorem defs_eq : Cert.Kernel.defs (F := Bits) = Cert.KernelIdeal.defs (F := Bits) :=
  congrArg (Pipeline.defs Cert.KernelIdeal.pcfgs) table_eq

/-- and the same @main. -/
theorem main_eq : Cert.Kernel.main (F := Bits) = Cert.KernelIdeal.main (F := Bits) := rfl

/-- So it has the same run. -/
theorem frame_bits (m : (ℓ : Loc Cert.Kernel.nD Cert.Kernel.τ Cert.Kernel.sig) → Buf (Elt Bits) ℓ) (g : Dev Cert.Kernel.nD → PrngReg) (b : Bool)
    (hpi : ∀ c : Dev Cert.Kernel.nD, m ((c.tc : Thread Cert.Kernel.nD Cert.Kernel.τ).loc Cert.Kernel.main_arg1) = Swap.piOf b) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq, main_eq]
  exact (θ_run Cert.KernelIdeal.defs _ _).mono (fun _ h => ⟨fun c => (h.1 c).2, h.2⟩) (Swap.run_pi (F := Bits) m g b hpi)

/-- Over the bits, when `pi` exchanges the positions, -/
theorem frame_kernel : Cert.quiescent_Kernel := fun m ρ hp =>
  frame_bits m ρ true fun c => Swap.pi_swapped _ _ (hp c)

/-- and when it keeps them; -/
theorem frame_kernel_kept : Cert.quiescent_Kernel_pre_kept_Kernel := fun m ρ hp =>
  frame_bits m ρ false fun c => Swap.pi_kept _ _ (hp c)

/-- over the reals too. -/
theorem frame_ideal : Cert.quiescent_KernelIdeal := fun m ρ hp =>
  (θ_run Cert.KernelIdeal.defs _ _).mono (fun _ h => ⟨fun c => (h.1 c).2, h.2⟩)
    (Swap.run_pi (F := Ideal) m ρ true fun c => Swap.pi_swapped _ _ (hp c))

theorem frame_ideal_kept : Cert.quiescent_KernelIdeal_pre_kept_Kernel := fun m ρ hp =>
  (θ_run Cert.KernelIdeal.defs _ _).mono (fun _ h => ⟨fun c => (h.1 c).2, h.2⟩)
    (Swap.run_pi (F := Ideal) m ρ false fun c => Swap.pi_kept _ _ (hp c))

/-! ## The reference -/

/-- The reference runs from any memory. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-! ## The value -/

/-- Device by device, the kernel's result is its block of the reference's. -/
theorem value (b : Bool) (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpi : ∀ c : Dev Cert.KernelIdeal.nD, m ((c.tc : Thread Cert.KernelIdeal.nD Cert.KernelIdeal.τ).loc Cert.KernelIdeal.main_arg1) = Swap.piOf b)
    (hx : ∀ c : Dev Cert.KernelIdeal.nD,
      m ((c.tc : Thread Cert.KernelIdeal.nD Cert.KernelIdeal.τ).loc Cert.KernelIdeal.main_arg0) = Swap.blk c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Swap.blk c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hp' : m' (((0 : Dev Cert.ReferenceIdeal.nD).tc : Thread Cert.ReferenceIdeal.nD Cert.ReferenceIdeal.τ).loc Cert.ReferenceIdeal.main_arg1) = Swap.piOf b :=
    (hx 0).2.symm.trans (hpi 0)
  refine ⟨Swap.refOut (F := Ideal) (m' (((0 : Dev Cert.ReferenceIdeal.nD).tc : Thread Cert.ReferenceIdeal.nD Cert.ReferenceIdeal.τ).loc Cert.ReferenceIdeal.main_arg0)) (Swap.piOf b), ?_, ?_⟩
  · exact (θ_run Cert.KernelIdeal.defs _ _).mono
      (fun _ h c => ⟨((h.1 c).1.trans (Swap.res_blk m b _ (fun c => (hx c).1) c)).trans (Swap.refOut_blk b _ c).symm, (h.1 c).2⟩)
      (Swap.run_pi m g b hpi)
  · refine (θ_run Cert.ReferenceIdeal.defs _ _).mono (fun _ h => ⟨(h 0).1.trans ?_, (h 0).2⟩) (Cert.ReferenceIdeal.Value.run m' g')
    rw [hp']
    rfl

theorem value_swapped : Cert.algebraic_KernelIdeal_ReferenceIdeal := fun m g m' g' hp hx =>
  value true m g m' g' (fun c => Swap.pi_swapped _ _ (hp c)) hx

theorem value_kept : Cert.algebraic_KernelIdeal_ReferenceIdeal_pre_kept_Kernel := fun m g m' g' hp hx =>
  value false m g m' g' (fun c => Swap.pi_kept _ _ (hp c)) hx

theorem claim : Cert.Claim :=
  ⟨Cert.Kernel.Gen.facts, Cert.KernelIdeal.Gen.facts, Cert.ReferenceIdeal.Gen.facts, inferInstance, inferInstance, inferInstance, inferInstance,
    frame_kernel, frame_kernel_kept, frame_ideal, frame_ideal_kept, frame_reference, fun m ρ _ => frame_reference m ρ trivial,
    fun m ρ _ => frame_reference m ρ trivial, trivial, value_swapped, value_kept⟩

end Cert.Proof

end
